-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "mask" .f32 0xF149F2CA#32 ⊥

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "scale" .f32 0x3E0293EE#32 (((Real.log 2)⁻¹ * (Real.sqrt 128)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16x64x1024 : Shape := ⟨3, ![16, 64, 1024]⟩
abbrev S16x64x4 : Shape := ⟨3, ![16, 64, 4]⟩
abbrev S16x3x2048 : Shape := ⟨3, ![16, 3, 2048]⟩
abbrev S4x2048 : Shape := ⟨2, ![4, 2048]⟩
abbrev S2048 : Shape := ⟨1, ![2048]⟩
abbrev S8 : Shape := ⟨1, ![8]⟩
abbrev S1024 : Shape := ⟨1, ![1024]⟩
abbrev S16x4x256x256 : Shape := ⟨4, ![16, 4, 256, 256]⟩
abbrev S16x4x256 : Shape := ⟨3, ![16, 4, 256]⟩
abbrev S16x4 : Shape := ⟨2, ![16, 4]⟩
abbrev S_ : Shape := ⟨0, ![]⟩
abbrev S16x64x72 : Shape := ⟨3, ![16, 64, 72]⟩
abbrev S16x64x48 : Shape := ⟨3, ![16, 64, 48]⟩
abbrev S16x64x128 : Shape := ⟨3, ![16, 64, 128]⟩
abbrev S16x64x2560 : Shape := ⟨3, ![16, 64, 2560]⟩
abbrev S16x64x384 : Shape := ⟨3, ![16, 64, 384]⟩
abbrev S16x64x7168 : Shape := ⟨3, ![16, 64, 7168]⟩
abbrev S1x128 : Shape := ⟨2, ![1, 128]⟩
abbrev S1 : Shape := ⟨1, ![1]⟩
abbrev S2 : Shape := ⟨1, ![2]⟩
abbrev S1x2048 : Shape := ⟨2, ![1, 2048]⟩
abbrev S1x1024 : Shape := ⟨2, ![1, 1024]⟩
abbrev S16x1x4 : Shape := ⟨3, ![16, 1, 4]⟩
abbrev S1x64x1024 : Shape := ⟨3, ![1, 64, 1024]⟩
abbrev S1x64x128 : Shape := ⟨3, ![1, 64, 128]⟩
abbrev S1x4x256x256 : Shape := ⟨4, ![1, 4, 256, 256]⟩
abbrev S1x4x256 : Shape := ⟨3, ![1, 4, 256]⟩
abbrev S1x1x4 : Shape := ⟨3, ![1, 1, 4]⟩
abbrev S1x3x2048 : Shape := ⟨3, ![1, 3, 2048]⟩
abbrev S72x2048 : Shape := ⟨2, ![72, 2048]⟩
abbrev S3x2048 : Shape := ⟨2, ![3, 2048]⟩
abbrev S64x1024 : Shape := ⟨2, ![64, 1024]⟩
abbrev S64x2048 : Shape := ⟨2, ![64, 2048]⟩
abbrev S64x128 : Shape := ⟨2, ![64, 128]⟩
abbrev S64x64 : Shape := ⟨2, ![64, 64]⟩
abbrev S8x128 : Shape := ⟨2, ![8, 128]⟩
abbrev S8x64 : Shape := ⟨2, ![8, 64]⟩
abbrev S64x256 : Shape := ⟨2, ![64, 256]⟩
abbrev S64x1 : Shape := ⟨2, ![64, 1]⟩
abbrev S1x64 : Shape := ⟨2, ![1, 64]⟩
abbrev S1x1x1 : Shape := ⟨3, ![1, 1, 1]⟩
abbrev S1x1 : Shape := ⟨2, ![1, 1]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S64 : Shape := ⟨1, ![64]⟩
abbrev S256 : Shape := ⟨1, ![256]⟩
abbrev S1x64x256 : Shape := ⟨3, ![1, 64, 256]⟩

abbrev nBuf : Space → Nat
  | .hbm => 40
  | .vmem => 33
  | .smem => 0
  | _ => 0

abbrev bufTy : (tb : Table) → Fin (tcTables nBuf tb) → BufTy
  | .hbm, ⟨0, _⟩ => ⟨S16x64x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64x4, .f32⟩
  | .hbm, ⟨5, _⟩ => ⟨S16x64x4, .f32⟩
  | .hbm, ⟨6, _⟩ => ⟨S16x3x2048, .f32⟩
  | .hbm, ⟨7, _⟩ => ⟨S4x2048, .f32⟩
  | .hbm, ⟨8, _⟩ => ⟨S2048, .f32⟩
  | .hbm, ⟨9, _⟩ => ⟨S8, .f32⟩
  | .hbm, ⟨10, _⟩ => ⟨S1024, .f32⟩
  | .hbm, ⟨11, _⟩ => ⟨S16x4x256x256, .f32⟩
  | .hbm, ⟨12, _⟩ => ⟨S16x4x256, .f32⟩
  | .hbm, ⟨13, _⟩ => ⟨S16x4, .f32⟩
  | .hbm, ⟨14, _⟩ => ⟨S_, .f32⟩
  | .hbm, ⟨15, _⟩ => ⟨S16x64x72, .f32⟩
  | .hbm, ⟨16, _⟩ => ⟨S_, .f32⟩
  | .hbm, ⟨17, _⟩ => ⟨S16x64x48, .f32⟩
  | .hbm, ⟨18, _⟩ => ⟨S16x64x128, .f32⟩
  | .hbm, ⟨19, _⟩ => ⟨S_, .f32⟩
  | .hbm, ⟨20, _⟩ => ⟨S16x64x2560, .f32⟩
  | .hbm, ⟨21, _⟩ => ⟨S_, .f32⟩
  | .hbm, ⟨22, _⟩ => ⟨S16x64x384, .f32⟩
  | .hbm, ⟨23, _⟩ => ⟨S16x64x7168, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S1x2048, .f32⟩
  | .hbm, ⟨33, _⟩ => ⟨S1x1024, .f32⟩
  | .hbm, ⟨34, _⟩ => ⟨S16x1x4, .f32⟩
  | .hbm, ⟨35, _⟩ => ⟨S16x64x1024, .bf16⟩
  | .hbm, ⟨36, _⟩ => ⟨S16x4x256x256, .f32⟩
  | .hbm, ⟨37, _⟩ => ⟨S16x4x256, .f32⟩
  | .hbm, ⟨38, _⟩ => ⟨S16x1x4, .f32⟩
  | .hbm, ⟨39, _⟩ => ⟨S16x3x2048, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x128, .f32⟩
  | .local _ .vmem, ⟨9, _⟩ => ⟨S1x64x128, .f32⟩
  | .local _ .vmem, ⟨10, _⟩ => ⟨S1x128, .f32⟩
  | .local _ .vmem, ⟨11, _⟩ => ⟨S4x2048, .f32⟩
  | .local _ .vmem, ⟨12, _⟩ => ⟨S1x2048, .f32⟩
  | .local _ .vmem, ⟨13, _⟩ => ⟨S1x1024, .f32⟩
  | .local _ .vmem, ⟨14, _⟩ => ⟨S1x4x256x256, .f32⟩
  | .local _ .vmem, ⟨15, _⟩ => ⟨S1x4x256x256, .f32⟩
  | .local _ .vmem, ⟨16, _⟩ => ⟨S1x4x256, .f32⟩
  | .local _ .vmem, ⟨17, _⟩ => ⟨S1x4x256, .f32⟩
  | .local _ .vmem, ⟨18, _⟩ => ⟨S1x1x4, .f32⟩
  | .local _ .vmem, ⟨19, _⟩ => ⟨S1x1x4, .f32⟩
  | .local _ .vmem, ⟨20, _⟩ => ⟨S1x3x2048, .f32⟩
  | .local _ .vmem, ⟨21, _⟩ => ⟨S1x3x2048, .f32⟩
  | .local _ .vmem, ⟨22, _⟩ => ⟨S1x64x1024, .bf16⟩
  | .local _ .vmem, ⟨23, _⟩ => ⟨S1x64x1024, .bf16⟩
  | .local _ .vmem, ⟨24, _⟩ => ⟨S1x4x256x256, .f32⟩
  | .local _ .vmem, ⟨25, _⟩ => ⟨S1x4x256x256, .f32⟩
  | .local _ .vmem, ⟨26, _⟩ => ⟨S1x4x256, .f32⟩
  | .local _ .vmem, ⟨27, _⟩ => ⟨S1x4x256, .f32⟩
  | .local _ .vmem, ⟨28, _⟩ => ⟨S1x1x4, .f32⟩
  | .local _ .vmem, ⟨29, _⟩ => ⟨S1x1x4, .f32⟩
  | .local _ .vmem, ⟨30, _⟩ => ⟨S1x3x2048, .f32⟩
  | .local _ .vmem, ⟨31, _⟩ => ⟨S1x3x2048, .f32⟩
  | .local _ .vmem, ⟨32, _⟩ => ⟨S72x2048, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_cst_1 : Ref sig .tc := ⟨.hbm, 19, rfl⟩
abbrev main_v3 : Ref sig .tc := ⟨.hbm, 20, rfl⟩
abbrev main_cst_2 : Ref sig .tc := ⟨.hbm, 21, rfl⟩
abbrev main_v4 : Ref sig .tc := ⟨.hbm, 22, rfl⟩
abbrev main_v5 : Ref sig .tc := ⟨.hbm, 23, rfl⟩
abbrev main_cst_3 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_c_4 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v14_2 : Ref sig .tc := ⟨.hbm, 37, rfl⟩
abbrev main_v14_3 : Ref sig .tc := ⟨.hbm, 38, rfl⟩
abbrev main_v14_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x3x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S16x64x1024 : Shape := ⟨3, ![16, 64, 1024]⟩
abbrev S16x64x4 : Shape := ⟨3, ![16, 64, 4]⟩
abbrev S16x3x2048 : Shape := ⟨3, ![16, 3, 2048]⟩
abbrev S4x2048 : Shape := ⟨2, ![4, 2048]⟩
abbrev S2048 : Shape := ⟨1, ![2048]⟩
abbrev S8 : Shape := ⟨1, ![8]⟩
abbrev S1024 : Shape := ⟨1, ![1024]⟩
abbrev S16x4x256x256 : Shape := ⟨4, ![16, 4, 256, 256]⟩
abbrev S16x4x256 : Shape := ⟨3, ![16, 4, 256]⟩
abbrev S16x4 : Shape := ⟨2, ![16, 4]⟩
abbrev S16x64x2048 : Shape := ⟨3, ![16, 64, 2048]⟩
abbrev S16x67x2048 : Shape := ⟨3, ![16, 67, 2048]⟩
abbrev S1x2048 : Shape := ⟨2, ![1, 2048]⟩
abbrev S1x1x2048 : Shape := ⟨3, ![1, 1, 2048]⟩
abbrev S_ : Shape := ⟨0, ![]⟩
abbrev S16x64x4x256 : Shape := ⟨4, ![16, 64, 4, 256]⟩
abbrev S4 : Shape := ⟨1, ![4]⟩
abbrev S1x1x4 : Shape := ⟨3, ![1, 1, 4]⟩
abbrev S64x64 : Shape := ⟨2, ![64, 64]⟩
abbrev S16x4x64 : Shape := ⟨3, ![16, 4, 64]⟩
abbrev S16x4x64x1 : Shape := ⟨4, ![16, 4, 64, 1]⟩
abbrev S16x4x1x64 : Shape := ⟨4, ![16, 4, 1, 64]⟩
abbrev S16x4x64x64 : Shape := ⟨4, ![16, 4, 64, 64]⟩
abbrev S16x4x1 : Shape := ⟨3, ![16, 4, 1]⟩
abbrev S16x4x64x256 : Shape := ⟨4, ![16, 4, 64, 256]⟩
abbrev S16x64x4x1 : Shape := ⟨4, ![16, 64, 4, 1]⟩
abbrev S16x4x1x1 : Shape := ⟨4, ![16, 4, 1, 1]⟩
abbrev S4x256 : Shape := ⟨2, ![4, 256]⟩
abbrev S1x1x4x256 : Shape := ⟨4, ![1, 1, 4, 256]⟩
abbrev S16x1x4 : Shape := ⟨3, ![16, 1, 4]⟩

abbrev nBuf : Space → Nat
  | .hbm => 213
  | .vmem => 0
  | .smem => 0
  | _ => 0

abbrev hbmTy0_0 (i : Nat) : BufTy := match i % 128 with
  | 0 => ⟨S16x64x1024, .f32⟩
  | 1 => ⟨S16x64x1024, .f32⟩
  | 2 => ⟨S16x64x1024, .f32⟩
  | 3 => ⟨S16x64x1024, .f32⟩
  | 4 => ⟨S16x64x4, .f32⟩
  | 5 => ⟨S16x64x4, .f32⟩
  | 6 => ⟨S16x3x2048, .f32⟩
  | 7 => ⟨S4x2048, .f32⟩
  | 8 => ⟨S2048, .f32⟩
  | 9 => ⟨S8, .f32⟩
  | 10 => ⟨S1024, .f32⟩
  | 11 => ⟨S16x4x256x256, .f32⟩
  | 12 => ⟨S16x4x256, .f32⟩
  | 13 => ⟨S16x4, .f32⟩
  | 14 => ⟨S16x64x2048, .f32⟩
  | 15 => ⟨S16x67x2048, .f32⟩
  | 16 => ⟨S16x64x2048, .f32⟩
  | 17 => ⟨S1x2048, .f32⟩
  | 18 => ⟨S2048, .f32⟩
  | 19 => ⟨S1x1x2048, .f32⟩
  | 20 => ⟨S16x64x2048, .f32⟩
  | 21 => ⟨S16x64x2048, .f32⟩
  | 22 => ⟨S1x1x2048, .f32⟩
  | 23 => ⟨S16x64x2048, .f32⟩
  | 24 => ⟨S16x64x2048, .f32⟩
  | 25 => ⟨S16x64x2048, .f32⟩
  | 26 => ⟨S1x2048, .f32⟩
  | 27 => ⟨S2048, .f32⟩
  | 28 => ⟨S1x1x2048, .f32⟩
  | 29 => ⟨S16x64x2048, .f32⟩
  | 30 => ⟨S16x64x2048, .f32⟩
  | 31 => ⟨S16x64x2048, .f32⟩
  | 32 => ⟨S16x64x2048, .f32⟩
  | 33 => ⟨S1x2048, .f32⟩
  | 34 => ⟨S2048, .f32⟩
  | 35 => ⟨S1x1x2048, .f32⟩
  | 36 => ⟨S16x64x2048, .f32⟩
  | 37 => ⟨S16x64x2048, .f32⟩
  | 38 => ⟨S16x64x2048, .f32⟩
  | 39 => ⟨S16x64x2048, .f32⟩
  | 40 => ⟨S1x2048, .f32⟩
  | 41 => ⟨S2048, .f32⟩
  | 42 => ⟨S1x1x2048, .f32⟩
  | 43 => ⟨S16x64x2048, .f32⟩
  | 44 => ⟨S16x64x2048, .f32⟩
  | 45 => ⟨S16x64x2048, .f32⟩
  | 46 => ⟨S16x3x2048, .f32⟩
  | 47 => ⟨S16x64x2048, .f32⟩
  | 48 => ⟨S16x64x2048, .f32⟩
  | 49 => ⟨S_, .f32⟩
  | 50 => ⟨S16x64x2048, .f32⟩
  | 51 => ⟨S16x64x2048, .f32⟩
  | 52 => ⟨S_, .f32⟩
  | 53 => ⟨S16x64x2048, .f32⟩
  | 54 => ⟨S16x64x2048, .f32⟩
  | 55 => ⟨S16x64x2048, .f32⟩
  | 56 => ⟨S16x64x1024, .f32⟩
  | 57 => ⟨S16x64x4x256, .f32⟩
  | 58 => ⟨S16x64x1024, .f32⟩
  | 59 => ⟨S16x64x4x256, .f32⟩
  | 60 => ⟨S_, .f32⟩
  | 61 => ⟨S16x64x4x256, .f32⟩
  | 62 => ⟨S16x64x4x256, .f32⟩
  | 63 => ⟨S16x64x4x256, .f32⟩
  | 64 => ⟨S4, .f32⟩
  | 65 => ⟨S1x1x4, .f32⟩
  | 66 => ⟨S16x64x4, .f32⟩
  | 67 => ⟨S16x64x4, .f32⟩
  | 68 => ⟨S4, .f32⟩
  | 69 => ⟨S1x1x4, .f32⟩
  | 70 => ⟨S16x64x4, .f32⟩
  | 71 => ⟨S16x64x4, .f32⟩
  | 72 => ⟨S16x64x4, .f32⟩
  | 73 => ⟨S_, .f32⟩
  | 74 => ⟨S16x64x4, .f32⟩
  | 75 => ⟨S16x64x4, .f32⟩
  | 76 => ⟨S16x64x4, .f32⟩
  | 77 => ⟨S16x64x4, .f32⟩
  | 78 => ⟨S16x64x4, .i1⟩
  | 79 => ⟨S16x64x4, .f32⟩
  | 80 => ⟨S16x64x4, .f32⟩
  | 81 => ⟨S16x64x4, .f32⟩
  | 82 => ⟨S16x64x4, .f32⟩
  | 83 => ⟨S16x64x4, .f32⟩
  | 84 => ⟨S16x64x4, .f32⟩
  | 85 => ⟨S16x64x4, .f32⟩
  | 86 => ⟨S16x64x4, .f32⟩
  | 87 => ⟨S16x64x4, .f32⟩
  | 88 => ⟨S_, .i1⟩
  | 89 => ⟨S64x64, .i1⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .i1⟩
  | 97 => ⟨S64x64, .i1⟩
  | 98 => ⟨S64x64, .i1⟩
  | 99 => ⟨S_, .f32⟩
  | 100 => ⟨S_, .f32⟩
  | 101 => ⟨S16x64x4, .f32⟩
  | 102 => ⟨S16x4x64, .f32⟩
  | 103 => ⟨S16x4x64, .f32⟩
  | 104 => ⟨S16x4x64x1, .f32⟩
  | 105 => ⟨S16x4x1x64, .f32⟩
  | 106 => ⟨S16x4x64x64, .f32⟩
  | 107 => ⟨S16x4x64x64, .f32⟩
  | 108 => ⟨S16x4x64x64, .f32⟩
  | 109 => ⟨S16x4x1x64, .f32⟩
  | 110 => ⟨S16x4x64x64, .f32⟩
  | 111 => ⟨S16x4x64x64, .f32⟩
  | 112 => ⟨S_, .f32⟩
  | 113 => ⟨S_, .f32⟩
  | 114 => ⟨S16x4x64x64, .i1⟩
  | 115 => ⟨S16x4x64x64, .f32⟩
  | 116 => ⟨S16x4x64x64, .f32⟩
  | 117 => ⟨S16x4x1, .f32⟩
  | 118 => ⟨S16x4x64, .f32⟩
  | 119 => ⟨S16x4x64, .f32⟩
  | 120 => ⟨S_, .f32⟩
  | 121 => ⟨S16x4x64, .f32⟩
  | 122 => ⟨S16x4x64, .f32⟩
  | 123 => ⟨S16x4x64x1, .f32⟩
  | 124 => ⟨S16x4x64x64, .f32⟩
  | 125 => ⟨S16x4x64x64, .f32⟩
  | 126 => ⟨S16x4x64x64, .f32⟩
  | 127 => ⟨S16x4x64, .f32⟩
  | _ => ⟨S16x64x1024, .f32⟩

abbrev hbmTy0_1 (i : Nat) : BufTy := match i % 128 with
  | 0 => ⟨S16x4x64, .f32⟩
  | 1 => ⟨S16x4x64x64, .f32⟩
  | 2 => ⟨S16x4x64x64, .f32⟩
  | 3 => ⟨S16x4x64x256, .f32⟩
  | 4 => ⟨S16x4x64x1, .f32⟩
  | 5 => ⟨S16x4x64x256, .f32⟩
  | 6 => ⟨S16x4x64x256, .f32⟩
  | 7 => ⟨S16x4x64x256, .f32⟩
  | 8 => ⟨S16x4x64x256, .f32⟩
  | 9 => ⟨S_, .f32⟩
  | 10 => ⟨S16x4x64, .f32⟩
  | 11 => ⟨S16x4x64, .f32⟩
  | 12 => ⟨S16x4x64, .f32⟩
  | 13 => ⟨S16x4x64, .f32⟩
  | 14 => ⟨S16x4x64, .f32⟩
  | 15 => ⟨S16x4x64, .f32⟩
  | 16 => ⟨S16x4x64, .f32⟩
  | 17 => ⟨S16x4x64, .f32⟩
  | 18 => ⟨S16x4x64x1, .f32⟩
  | 19 => ⟨S16x4x64x256, .f32⟩
  | 20 => ⟨S16x4x64x256, .f32⟩
  | 21 => ⟨S16x64x4x256, .f32⟩
  | 22 => ⟨S16x4x1, .f32⟩
  | 23 => ⟨S16x4, .f32⟩
  | 24 => ⟨S16x4x1, .f32⟩
  | 25 => ⟨S16x4x64, .f32⟩
  | 26 => ⟨S16x4x64, .f32⟩
  | 27 => ⟨S16x4x64, .f32⟩
  | 28 => ⟨S16x4x1, .f32⟩
  | 29 => ⟨S16x4x64, .f32⟩
  | 30 => ⟨S16x4x64, .f32⟩
  | 31 => ⟨S16x4x64, .f32⟩
  | 32 => ⟨S16x4x1, .f32⟩
  | 33 => ⟨S16x4, .f32⟩
  | 34 => ⟨S16x4, .f32⟩
  | 35 => ⟨S16x4, .f32⟩
  | 36 => ⟨S16x4, .f32⟩
  | 37 => ⟨S16x64x4, .f32⟩
  | 38 => ⟨S16x64x4x1, .f32⟩
  | 39 => ⟨S16x64x4x256, .f32⟩
  | 40 => ⟨S16x64x4x256, .f32⟩
  | 41 => ⟨S16x4x1x1, .f32⟩
  | 42 => ⟨S16x4x256x256, .f32⟩
  | 43 => ⟨S16x4x256x256, .f32⟩
  | 44 => ⟨S16x4x256x256, .f32⟩
  | 45 => ⟨S16x4x256x256, .f32⟩
  | 46 => ⟨S16x4x1, .f32⟩
  | 47 => ⟨S16x4x256, .f32⟩
  | 48 => ⟨S16x4x256, .f32⟩
  | 49 => ⟨S16x64x4, .f32⟩
  | 50 => ⟨S16x64x4x1, .f32⟩
  | 51 => ⟨S16x64x4x256, .f32⟩
  | 52 => ⟨S16x64x4x256, .f32⟩
  | 53 => ⟨S_, .f32⟩
  | 54 => ⟨S16x4x256, .f32⟩
  | 55 => ⟨S16x4x256, .f32⟩
  | 56 => ⟨S4x256, .f32⟩
  | 57 => ⟨S16x64x4x256, .f32⟩
  | 58 => ⟨S_, .f32⟩
  | 59 => ⟨S16x64x4, .f32⟩
  | 60 => ⟨S16x64x4x1, .f32⟩
  | 61 => ⟨S_, .f32⟩
  | 62 => ⟨S16x64x4x1, .f32⟩
  | 63 => ⟨S16x64x4x1, .f32⟩
  | 64 => ⟨S_, .f32⟩
  | 65 => ⟨S16x64x4x1, .f32⟩
  | 66 => ⟨S16x64x4x1, .f32⟩
  | 67 => ⟨S16x64x4x1, .f32⟩
  | 68 => ⟨S16x64x4x256, .f32⟩
  | 69 => ⟨S16x64x4x256, .f32⟩
  | 70 => ⟨S1x1x4x256, .f32⟩
  | 71 => ⟨S16x64x4x256, .f32⟩
  | 72 => ⟨S16x64x4x256, .f32⟩
  | 73 => ⟨S16x64x1024, .f32⟩
  | 74 => ⟨S16x64x1024, .f32⟩
  | 75 => ⟨S16x64x1024, .f32⟩
  | 76 => ⟨S_, .f32⟩
  | 77 => ⟨S16x64x1024, .f32⟩
  | 78 => ⟨S16x64x1024, .f32⟩
  | 79 => ⟨S_, .f32⟩
  | 80 => ⟨S16x64x1024, .f32⟩
  | 81 => ⟨S16x64x1024, .f32⟩
  | 82 => ⟨S16x64x1024, .f32⟩
  | 83 => ⟨S16x64x1024, .bf16⟩
  | 84 => ⟨S16x1x4, .f32⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1 : Ref sig .tc := ⟨.hbm, 86, rfl⟩
abbrev main_v49 : Ref sig .tc := ⟨.hbm, 87, rfl⟩
abbrev main_c : Ref sig .tc := ⟨.hbm, 88, rfl⟩
abbrev main_v50 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_0 : Ref sig .tc := ⟨.hbm, 96, rfl⟩
abbrev main_call2_v5 : Ref sig .tc := ⟨.hbm, 97, rfl⟩
abbrev main_v51 : Ref sig .tc := ⟨.hbm, 98, rfl⟩
abbrev main_call3_call0_cst : Ref sig .tc := ⟨.hbm, 99, rfl⟩
abbrev main_call3_call0_v0 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_0 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_1 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_2 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_3 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_4 : Ref sig .tc := ⟨.hbm, 186, rfl⟩
abbrev main_v130 : Ref sig .tc := ⟨.hbm, 187, rfl⟩
abbrev main_v131 : Ref sig .tc := ⟨.hbm, 188, rfl⟩
abbrev main_cst_5 : Ref sig .tc := ⟨.hbm, 189, rfl⟩
abbrev main_v132 : Ref sig .tc := ⟨.hbm, 190, rfl⟩
abbrev main_v133 : Ref sig .tc := ⟨.hbm, 191, rfl⟩
abbrev main_cst_6 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_7 : Ref sig .tc := ⟨.hbm, 204, rfl⟩
abbrev main_v145 : Ref sig .tc := ⟨.hbm, 205, rfl⟩
abbrev main_v146 : Ref sig .tc := ⟨.hbm, 206, rfl⟩
abbrev main_cst_8 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩

abbrev nD : Nat := 1
abbrev τ : Topo := Topo.v7x

variable {F : FTy → Type} [FloatOps F]
-- ==== Kernel2.lean ====
abbrev S16x64x8x128 : Shape := ⟨4, ![16, 64, 8, 128]⟩
abbrev S16x1024x8x128 : Shape := ⟨4, ![16, 1024, 8, 128]⟩
abbrev S16x64x1088 : Shape := ⟨3, ![16, 64, 1088]⟩
abbrev S_ : Shape := ⟨0, ![]⟩
abbrev S16x64x1024 : Shape := ⟨3, ![16, 64, 1024]⟩
abbrev S16x1024x64 : Shape := ⟨3, ![16, 1024, 64]⟩
abbrev S16x8x128x64 : Shape := ⟨4, ![16, 8, 128, 64]⟩
abbrev S16x8x16x64 : Shape := ⟨4, ![16, 8, 16, 64]⟩
abbrev S16x8x144x64 : Shape := ⟨4, ![16, 8, 144, 64]⟩
abbrev S16x1x1152x64 : Shape := ⟨4, ![16, 1, 1152, 64]⟩
abbrev S16x1088x64 : Shape := ⟨3, ![16, 1088, 64]⟩
abbrev S16x1152x64 : Shape := ⟨3, ![16, 1152, 64]⟩
abbrev S16x8192x128 : Shape := ⟨3, ![16, 8192, 128]⟩
abbrev S1x1024x64 : Shape := ⟨3, ![1, 1024, 64]⟩
abbrev S1x64x1024 : Shape := ⟨3, ![1, 64, 1024]⟩
abbrev S1x1x1152x64 : Shape := ⟨4, ![1, 1, 1152, 64]⟩
abbrev S1x8192x128 : Shape := ⟨3, ![1, 8192, 128]⟩
abbrev S1152x64 : Shape := ⟨2, ![1152, 64]⟩
abbrev S1024x64 : Shape := ⟨2, ![1024, 64]⟩
abbrev S64x64 : Shape := ⟨2, ![64, 64]⟩
abbrev S128x128 : Shape := ⟨2, ![128, 128]⟩
abbrev S1x128x64 : Shape := ⟨3, ![1, 128, 64]⟩
abbrev S128x64 : Shape := ⟨2, ![128, 64]⟩
abbrev S1x1024x128 : Shape := ⟨3, ![1, 1024, 128]⟩
abbrev S1024x128 : Shape := ⟨2, ![1024, 128]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S128x1024 : Shape := ⟨2, ![128, 1024]⟩
abbrev S1x1x128x64 : Shape := ⟨4, ![1, 1, 128, 64]⟩

abbrev nBuf : Space → Nat
  | .hbm => 28
  | .vmem => 14
  | .smem => 0
  | _ => 0

abbrev bufTy : (tb : Table) → Fin (tcTables nBuf tb) → BufTy
  | .hbm, ⟨0, _⟩ => ⟨S16x64x8x128, .f32⟩
  | .hbm, ⟨1, _⟩ => ⟨S16x64x8x128, .f32⟩
  | .hbm, ⟨2, _⟩ => ⟨S16x64x8x128, .f32⟩
  | .hbm, ⟨3, _⟩ => ⟨S16x1024x8x128, .f32⟩
  | .hbm, ⟨4, _⟩ => ⟨S16x1024x8x128, .f32⟩
  | .hbm, ⟨5, _⟩ => ⟨S16x64x1088, .i8⟩
  | .hbm, ⟨6, _⟩ => ⟨S_, .f32⟩
  | .hbm, ⟨7, _⟩ => ⟨S16x64x8x128, .f32⟩
  | .hbm, ⟨8, _⟩ => ⟨S16x64x8x128, .f32⟩
  | .hbm, ⟨9, _⟩ => ⟨S16x64x1024, .f32⟩
  | .hbm, ⟨10, _⟩ => ⟨S16x1024x64, .f32⟩
  | .hbm, ⟨11, _⟩ => ⟨S16x1024x64, .bf16⟩
  | .hbm, ⟨12, _⟩ => ⟨S16x64x1024, .f32⟩
  | .hbm, ⟨13, _⟩ => ⟨S16x64x1024, .bf16⟩
  | .hbm, ⟨14, _⟩ => ⟨S16x8x128x64, .f32⟩
  | .hbm, ⟨15, _⟩ => ⟨S_, .f32⟩
  | .hbm, ⟨16, _⟩ => ⟨S16x8x16x64, .f32⟩
  | .hbm, ⟨17, _⟩ => ⟨S16x8x144x64, .f32⟩
  | .hbm, ⟨18, _⟩ => ⟨S16x1x1152x64, .f32⟩
  | .hbm, ⟨19, _⟩ => ⟨S16x1x1152x64, .bf16⟩
  | .hbm, ⟨20, _⟩ => ⟨S16x1088x64, .i8⟩
  | .hbm, ⟨21, _⟩ => ⟨S_, .i32⟩
  | .hbm, ⟨22, _⟩ => ⟨S_, .i8⟩
  | .hbm, ⟨23, _⟩ => ⟨S16x1152x64, .i8⟩
  | .hbm, ⟨24, _⟩ => ⟨S16x1x1152x64, .i8⟩
  | .hbm, ⟨25, _⟩ => ⟨S16x8192x128, .f32⟩
  | .hbm, ⟨26, _⟩ => ⟨S16x8192x128, .f32⟩
  | .hbm, ⟨27, _⟩ => ⟨S16x64x1024, .bf16⟩
  | .local _ .vmem, ⟨0, _⟩ => ⟨S1x1024x64, .bf16⟩
  | .local _ .vmem, ⟨1, _⟩ => ⟨S1x1024x64, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x1x1152x64, .bf16⟩
  | .local _ .vmem, ⟨5, _⟩ => ⟨S1x1x1152x64, .bf16⟩
  | .local _ .vmem, ⟨6, _⟩ => ⟨S1x8192x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S1x1x1152x64, .i8⟩
  | .local _ .vmem, ⟨11, _⟩ => ⟨S1x1x1152x64, .i8⟩
  | .local _ .vmem, ⟨12, _⟩ => ⟨S1x64x1024, .bf16⟩
  | .local _ .vmem, ⟨13, _⟩ => ⟨S1x64x1024, .bf16⟩
  | _, _ => ⟨S16x64x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1152x64 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F] [Named F]
def κ : String → Option EReal := fun
  | "mask" => some ⊥
  | "scale" => some (((Real.log 2)⁻¹ * (Real.sqrt 128)⁻¹ : ℝ) : EReal)
  | _ => none
-- ==== Reference2Ideal.lean ====
abbrev S16x64x8x128 : Shape := ⟨4, ![16, 64, 8, 128]⟩
abbrev S16x1024x8x128 : Shape := ⟨4, ![16, 1024, 8, 128]⟩
abbrev S16x64x1088 : Shape := ⟨3, ![16, 64, 1088]⟩
abbrev S16x1088x8x128 : Shape := ⟨4, ![16, 1088, 8, 128]⟩
abbrev S16x8x1088x64 : Shape := ⟨4, ![16, 8, 1088, 64]⟩
abbrev S16x64x8x1088 : Shape := ⟨4, ![16, 64, 8, 1088]⟩
abbrev S_ : Shape := ⟨0, ![]⟩
abbrev S16x64x1x1088 : Shape := ⟨4, ![16, 64, 1, 1088]⟩
abbrev S16x64x8 : Shape := ⟨3, ![16, 64, 8]⟩
abbrev S16x64x8x1 : Shape := ⟨4, ![16, 64, 8, 1]⟩
abbrev S16x8x128x64 : Shape := ⟨4, ![16, 8, 128, 64]⟩
abbrev S16x64x1024 : Shape := ⟨3, ![16, 64, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x64x8x128, .f32⟩
  | .hbm, ⟨1, _⟩ => ⟨S16x64x8x128, .f32⟩
  | .hbm, ⟨2, _⟩ => ⟨S16x64x8x128, .f32⟩
  | .hbm, ⟨3, _⟩ => ⟨S16x1024x8x128, .f32⟩
  | .hbm, ⟨4, _⟩ => ⟨S16x1024x8x128, .f32⟩
  | .hbm, ⟨5, _⟩ => ⟨S16x64x1088, .i8⟩
  | .hbm, ⟨6, _⟩ => ⟨S16x1088x8x128, .f32⟩
  | .hbm, ⟨7, _⟩ => ⟨S16x1088x8x128, .f32⟩
  | .hbm, ⟨8, _⟩ => ⟨S16x8x1088x64, .f32⟩
  | .hbm, ⟨9, _⟩ => ⟨S16x64x8x1088, .f32⟩
  | .hbm, ⟨10, _⟩ => ⟨S_, .f32⟩
  | .hbm, ⟨11, _⟩ => ⟨S16x64x8x1088, .f32⟩
  | .hbm, ⟨12, _⟩ => ⟨S16x64x8x1088, .f32⟩
  | .hbm, ⟨13, _⟩ => ⟨S_, .i8⟩
  | .hbm, ⟨14, _⟩ => ⟨S16x64x1088, .i8⟩
  | .hbm, ⟨15, _⟩ => ⟨S16x64x1088, .i1⟩
  | .hbm, ⟨16, _⟩ => ⟨S16x64x1x1088, .i1⟩
  | .hbm, ⟨17, _⟩ => ⟨S_, .f32⟩
  | .hbm, ⟨18, _⟩ => ⟨S_, .f32⟩
  | .hbm, ⟨19, _⟩ => ⟨S16x64x8x1088, .i1⟩
  | .hbm, ⟨20, _⟩ => ⟨S16x64x8x1088, .f32⟩
  | .hbm, ⟨21, _⟩ => ⟨S16x64x8x1088, .f32⟩
  | .hbm, ⟨22, _⟩ => ⟨S_, .f32⟩
  | .hbm, ⟨23, _⟩ => ⟨S16x64x8, .f32⟩
  | .hbm, ⟨24, _⟩ => ⟨S_, .f32⟩
  | .hbm, ⟨25, _⟩ => ⟨S16x64x8, .f32⟩
  | .hbm, ⟨26, _⟩ => ⟨S16x64x8, .f32⟩
  | .hbm, ⟨27, _⟩ => ⟨S16x64x8x1, .f32⟩
  | .hbm, ⟨28, _⟩ => ⟨S16x64x8x1088, .f32⟩
  | .hbm, ⟨29, _⟩ => ⟨S16x64x8x1088, .f32⟩
  | .hbm, ⟨30, _⟩ => ⟨S16x64x8x1088, .f32⟩
  | .hbm, ⟨31, _⟩ => ⟨S_, .f32⟩
  | .hbm, ⟨32, _⟩ => ⟨S16x64x8, .f32⟩
  | .hbm, ⟨33, _⟩ => ⟨S16x64x8x1, .f32⟩
  | .hbm, ⟨34, _⟩ => ⟨S16x64x8x1088, .f32⟩
  | .hbm, ⟨35, _⟩ => ⟨S16x64x8x1088, .f32⟩
  | .hbm, ⟨36, _⟩ => ⟨S16x8x128x64, .f32⟩
  | .hbm, ⟨37, _⟩ => ⟨S16x64x8x128, .f32⟩
  | .hbm, ⟨38, _⟩ => ⟨S16x64x1024, .f32⟩
  | .hbm, ⟨39, _⟩ => ⟨S16x64x1024, .bf16⟩
  | _, _ => ⟨S16x64x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

def κ : String → Option EReal := fun
  | "scale" => some (((Real.sqrt 128)⁻¹ : ℝ) : EReal)
  | _ => none
-- ==== Kernel3.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x9808 : Shape := ⟨2, ![1024, 9808]⟩
abbrev S1024x4096 : Shape := ⟨2, ![1024, 4096]⟩
abbrev S1024x2048 : Shape := ⟨2, ![1024, 2048]⟩
abbrev S1024x584 : Shape := ⟨2, ![1024, 584]⟩
abbrev S1024x8 : Shape := ⟨2, ![1024, 8]⟩
abbrev S_ : Shape := ⟨0, ![]⟩
abbrev S1024x432 : Shape := ⟨2, ![1024, 432]⟩
abbrev S1024x7168 : Shape := ⟨2, ![1024, 7168]⟩
abbrev S1x1024 : Shape := ⟨2, ![1, 1024]⟩
abbrev S16384x7168 : Shape := ⟨2, ![16384, 7168]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9808, .f32⟩
  | .hbm, ⟨3, _⟩ => ⟨S1024x4096, .f32⟩
  | .hbm, ⟨4, _⟩ => ⟨S1024x2048, .f32⟩
  | .hbm, ⟨5, _⟩ => ⟨S1024x584, .f32⟩
  | .hbm, ⟨6, _⟩ => ⟨S1024x8, .f32⟩
  | .hbm, ⟨7, _⟩ => ⟨S_, .f32⟩
  | .hbm, ⟨8, _⟩ => ⟨S1024x432, .f32⟩
  | .hbm, ⟨9, _⟩ => ⟨S1024x7168, .f32⟩
  | .hbm, ⟨10, _⟩ => ⟨S1024x7168, .bf16⟩
  | .hbm, ⟨11, _⟩ => ⟨S1x1024, .f32⟩
  | .hbm, ⟨12, _⟩ => ⟨S16384x7168, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .f32⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
abbrev S16384x1024 : Shape := ⟨2, ![16384, 1024]⟩
abbrev S1024 : Shape := ⟨1, ![1024]⟩
abbrev S1024x9808 : Shape := ⟨2, ![1024, 9808]⟩
abbrev S1024x4096 : Shape := ⟨2, ![1024, 4096]⟩
abbrev S1024x2048 : Shape := ⟨2, ![1024, 2048]⟩
abbrev S1024x584 : Shape := ⟨2, ![1024, 584]⟩
abbrev S1024x8 : Shape := ⟨2, ![1024, 8]⟩
abbrev S_ : Shape := ⟨0, ![]⟩
abbrev S1024x432 : Shape := ⟨2, ![1024, 432]⟩
abbrev S1024x7168 : Shape := ⟨2, ![1024, 7168]⟩
abbrev S1x1024 : Shape := ⟨2, ![1, 1024]⟩
abbrev S16384x7168 : Shape := ⟨2, ![16384, 7168]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9808, .f32⟩
  | .hbm, ⟨3, _⟩ => ⟨S1024x4096, .f32⟩
  | .hbm, ⟨4, _⟩ => ⟨S1024x2048, .f32⟩
  | .hbm, ⟨5, _⟩ => ⟨S1024x584, .f32⟩
  | .hbm, ⟨6, _⟩ => ⟨S1024x8, .f32⟩
  | .hbm, ⟨7, _⟩ => ⟨S_, .f32⟩
  | .hbm, ⟨8, _⟩ => ⟨S1024x432, .f32⟩
  | .hbm, ⟨9, _⟩ => ⟨S1024x7168, .f32⟩
  | .hbm, ⟨10, _⟩ => ⟨S1024x7168, .bf16⟩
  | .hbm, ⟨11, _⟩ => ⟨S1x1024, .f32⟩
  | .hbm, ⟨12, _⟩ => ⟨S16384x7168, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .f32⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x1024 : Shape := ⟨2, ![16384, 1024]⟩
abbrev S1024 : Shape := ⟨1, ![1024]⟩
abbrev S1024x9808 : Shape := ⟨2, ![1024, 9808]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9808 : Shape := ⟨2, ![16384, 9808]⟩
abbrev S16384x4096 : Shape := ⟨2, ![16384, 4096]⟩
abbrev S16384x2048 : Shape := ⟨2, ![16384, 2048]⟩
abbrev S16384x584 : Shape := ⟨2, ![16384, 584]⟩
abbrev S16384x8 : Shape := ⟨2, ![16384, 8]⟩
abbrev S16384x432 : Shape := ⟨2, ![16384, 432]⟩
abbrev S16384x7168 : Shape := ⟨2, ![16384, 7168]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9808, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x9808, .f32⟩
  | .hbm, ⟨20, _⟩ => ⟨S16384x4096, .f32⟩
  | .hbm, ⟨21, _⟩ => ⟨S16384x2048, .f32⟩
  | .hbm, ⟨22, _⟩ => ⟨S16384x584, .f32⟩
  | .hbm, ⟨23, _⟩ => ⟨S16384x8, .f32⟩
  | .hbm, ⟨24, _⟩ => ⟨S_, .f32⟩
  | .hbm, ⟨25, _⟩ => ⟨S16384x432, .f32⟩
  | .hbm, ⟨26, _⟩ => ⟨S16384x7168, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x9808 : Shape := ⟨2, ![1024, 9808]⟩
abbrev S128 : Shape := ⟨1, ![128]⟩
abbrev S1024x3072 : Shape := ⟨2, ![1024, 3072]⟩
abbrev S1x1024 : Shape := ⟨2, ![1, 1024]⟩
abbrev S1x128 : Shape := ⟨2, ![1, 128]⟩
abbrev S2x65536x128 : Shape := ⟨3, ![2, 65536, 128]⟩
abbrev S2x1024x8192 : Shape := ⟨3, ![2, 1024, 8192]⟩
abbrev S2x16x1152x512 : Shape := ⟨4, ![2, 16, 1152, 512]⟩
abbrev S1x512x1024 : Shape := ⟨3, ![1, 512, 1024]⟩
abbrev S1x4096x128 : Shape := ⟨3, ![1, 4096, 128]⟩
abbrev S1x1024x512 : Shape := ⟨3, ![1, 1024, 512]⟩
abbrev S1x1x1152x512 : Shape := ⟨4, ![1, 1, 1152, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S128x512 : Shape := ⟨2, ![128, 512]⟩
abbrev S1x128x512 : Shape := ⟨3, ![1, 128, 512]⟩
abbrev S1x512x128 : Shape := ⟨3, ![1, 512, 128]⟩
abbrev S1x1x128x512 : Shape := ⟨4, ![1, 1, 128, 512]⟩
abbrev S16x512 : Shape := ⟨2, ![16, 512]⟩
abbrev S1x1x16x512 : Shape := ⟨4, ![1, 1, 16, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9808, .f32⟩
  | .hbm, ⟨3, _⟩ => ⟨S128, .f32⟩
  | .hbm, ⟨4, _⟩ => ⟨S128, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S1x128, .f32⟩
  | .hbm, ⟨9, _⟩ => ⟨S1x128, .f32⟩
  | .hbm, ⟨10, _⟩ => ⟨S2x65536x128, .f32⟩
  | .hbm, ⟨11, _⟩ => ⟨S2x65536x128, .f32⟩
  | .hbm, ⟨12, _⟩ => ⟨S2x8192x1024, .bf16⟩
  | .hbm, ⟨13, _⟩ => ⟨S2x1024x8192, .bf16⟩
  | .hbm, ⟨14, _⟩ => ⟨S2x16x1152x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1x1152x512, .bf16⟩
  | .local _ .vmem, ⟨15, _⟩ => ⟨S1x1x1152x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "scale" => some (((Real.log 2)⁻¹ * (Real.sqrt 128)⁻¹ : ℝ) : EReal)
  | _ => none
-- ==== Reference5Ideal.lean ====
abbrev S2x8192x1024 : Shape := ⟨3, ![2, 8192, 1024]⟩
abbrev S1024 : Shape := ⟨1, ![1024]⟩
abbrev S1024x9808 : Shape := ⟨2, ![1024, 9808]⟩
abbrev S128 : Shape := ⟨1, ![128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x65536x128 : Shape := ⟨3, ![2, 65536, 128]⟩
abbrev S2x1024x8192 : Shape := ⟨3, ![2, 1024, 8192]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9808, .f32⟩
  | .hbm, ⟨3, _⟩ => ⟨S128, .f32⟩
  | .hbm, ⟨4, _⟩ => ⟨S128, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x3072, .f32⟩
  | .hbm, ⟨22, _⟩ => ⟨S2x8192x3072, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x8x128, .f32⟩
  | .hbm, ⟨27, _⟩ => ⟨S2x8192x8x128, .f32⟩
  | .hbm, ⟨28, _⟩ => ⟨S_, .f32⟩
  | .hbm, ⟨29, _⟩ => ⟨S2x8192x8, .f32⟩
  | .hbm, ⟨30, _⟩ => ⟨S2x8192x8x1, .f32⟩
  | .hbm, ⟨31, _⟩ => ⟨S_, .f32⟩
  | .hbm, ⟨32, _⟩ => ⟨S2x8192x8x1, .f32⟩
  | .hbm, ⟨33, _⟩ => ⟨S2x8192x8x1, .f32⟩
  | .hbm, ⟨34, _⟩ => ⟨S_, .f32⟩
  | .hbm, ⟨35, _⟩ => ⟨S2x8192x8x1, .f32⟩
  | .hbm, ⟨36, _⟩ => ⟨S2x8192x8x1, .f32⟩
  | .hbm, ⟨37, _⟩ => ⟨S2x8192x8x1, .f32⟩
  | .hbm, ⟨38, _⟩ => ⟨S2x8192x8x128, .f32⟩
  | .hbm, ⟨39, _⟩ => ⟨S2x8192x8x128, .f32⟩
  | .hbm, ⟨40, _⟩ => ⟨S1x1x1x128, .f32⟩
  | .hbm, ⟨41, _⟩ => ⟨S2x8192x8x128, .f32⟩
  | .hbm, ⟨42, _⟩ => ⟨S2x8192x8x128, .f32⟩
  | .hbm, ⟨43, _⟩ => ⟨S_, .f32⟩
  | .hbm, ⟨44, _⟩ => ⟨S_, .f32⟩
  | .hbm, ⟨45, _⟩ => ⟨S2x8192x8x128, .f32⟩
  | .hbm, ⟨46, _⟩ => ⟨S2x8192x8x128, .f32⟩
  | .hbm, ⟨47, _⟩ => ⟨S_, .f32⟩
  | .hbm, ⟨48, _⟩ => ⟨S_, .f32⟩
  | .hbm, ⟨49, _⟩ => ⟨S2x8192x8x128, .f32⟩
  | .hbm, ⟨50, _⟩ => ⟨S2x8192x8x128, .f32⟩
  | .hbm, ⟨51, _⟩ => ⟨S2x8192x8x128, .f32⟩
  | .hbm, ⟨52, _⟩ => ⟨S2x8192x8x128, .f32⟩
  | .hbm, ⟨53, _⟩ => ⟨S_, .f32⟩
  | .hbm, ⟨54, _⟩ => ⟨S2x8192x8, .f32⟩
  | .hbm, ⟨55, _⟩ => ⟨S2x8192x8x1, .f32⟩
  | .hbm, ⟨56, _⟩ => ⟨S_, .f32⟩
  | .hbm, ⟨57, _⟩ => ⟨S2x8192x8x1, .f32⟩
  | .hbm, ⟨58, _⟩ => ⟨S2x8192x8x1, .f32⟩
  | .hbm, ⟨59, _⟩ => ⟨S_, .f32⟩
  | .hbm, ⟨60, _⟩ => ⟨S2x8192x8x1, .f32⟩
  | .hbm, ⟨61, _⟩ => ⟨S2x8192x8x1, .f32⟩
  | .hbm, ⟨62, _⟩ => ⟨S2x8192x8x1, .f32⟩
  | .hbm, ⟨63, _⟩ => ⟨S2x8192x8x128, .f32⟩
  | .hbm, ⟨64, _⟩ => ⟨S2x8192x8x128, .f32⟩
  | .hbm, ⟨65, _⟩ => ⟨S1x1x1x128, .f32⟩
  | .hbm, ⟨66, _⟩ => ⟨S2x8192x8x128, .f32⟩
  | .hbm, ⟨67, _⟩ => ⟨S2x8192x8x128, .f32⟩
  | .hbm, ⟨68, _⟩ => ⟨S2x65536x128, .f32⟩
  | .hbm, ⟨69, _⟩ => ⟨S2x65536x128, .f32⟩
  | .hbm, ⟨70, _⟩ => ⟨S2x8192x1024, .f32⟩
  | .hbm, ⟨71, _⟩ => ⟨S2x8192x1024, .bf16⟩
  | .hbm, ⟨72, _⟩ => ⟨S2x8192x1024, .f32⟩
  | .hbm, ⟨73, _⟩ => ⟨S2x1024x8192, .f32⟩
  | .hbm, ⟨74, _⟩ => ⟨S2x1024x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1024x1 : Shape := ⟨2, ![1024, 1]⟩
abbrev S1x1024 : Shape := ⟨2, ![1, 1024]⟩
abbrev S1024x2816 : Shape := ⟨2, ![1024, 2816]⟩

abbrev nBuf : Space → Nat
  | .hbm => 35
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x5632, .f32⟩
  | .hbm, ⟨21, _⟩ => ⟨S1024x2816, .f32⟩
  | .hbm, ⟨22, _⟩ => ⟨S1024x2816, .f32⟩
  | .hbm, ⟨23, _⟩ => ⟨S1024x2816, .f32⟩
  | .hbm, ⟨24, _⟩ => ⟨S1024x2816, .f32⟩
  | .hbm, ⟨25, _⟩ => ⟨S_, .f32⟩
  | .hbm, ⟨26, _⟩ => ⟨S1024x2816, .f32⟩
  | .hbm, ⟨27, _⟩ => ⟨S1024x2816, .f32⟩
  | .hbm, ⟨28, _⟩ => ⟨S_, .f32⟩
  | .hbm, ⟨29, _⟩ => ⟨S1024x2816, .f32⟩
  | .hbm, ⟨30, _⟩ => ⟨S1024x2816, .f32⟩
  | .hbm, ⟨31, _⟩ => ⟨S1024x2816, .f32⟩
  | .hbm, ⟨32, _⟩ => ⟨S1024x2816, .f32⟩
  | .hbm, ⟨33, _⟩ => ⟨S1024x1024, .f32⟩
  | .hbm, ⟨34, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel7.lean ====
abbrev S1024x1024 : Shape := ⟨2, ![1024, 1024]⟩
abbrev S1024 : Shape := ⟨1, ![1024]⟩
abbrev S1024x9808 : Shape := ⟨2, ![1024, 9808]⟩
abbrev S1024x4096 : Shape := ⟨2, ![1024, 4096]⟩
abbrev S1024x2048 : Shape := ⟨2, ![1024, 2048]⟩
abbrev S1024x584 : Shape := ⟨2, ![1024, 584]⟩
abbrev S1024x8 : Shape := ⟨2, ![1024, 8]⟩
abbrev S_ : Shape := ⟨0, ![]⟩
abbrev S1024x432 : Shape := ⟨2, ![1024, 432]⟩
abbrev S1024x7168 : Shape := ⟨2, ![1024, 7168]⟩
abbrev S1x1024 : Shape := ⟨2, ![1, 1024]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x9808, .f32⟩
  | .hbm, ⟨3, _⟩ => ⟨S1024x4096, .f32⟩
  | .hbm, ⟨4, _⟩ => ⟨S1024x2048, .f32⟩
  | .hbm, ⟨5, _⟩ => ⟨S1024x584, .f32⟩
  | .hbm, ⟨6, _⟩ => ⟨S1024x8, .f32⟩
  | .hbm, ⟨7, _⟩ => ⟨S_, .f32⟩
  | .hbm, ⟨8, _⟩ => ⟨S1024x432, .f32⟩
  | .hbm, ⟨9, _⟩ => ⟨S1024x7168, .f32⟩
  | .hbm, ⟨10, _⟩ => ⟨S1024x7168, .bf16⟩
  | .hbm, ⟨11, _⟩ => ⟨S1x1024, .f32⟩
  | .hbm, ⟨12, _⟩ => ⟨S1024x7168, .f32⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S1024x1024 : Shape := ⟨2, ![1024, 1024]⟩
abbrev S1024 : Shape := ⟨1, ![1024]⟩
abbrev S1024x9808 : Shape := ⟨2, ![1024, 9808]⟩
abbrev S_ : Shape := ⟨0, ![]⟩
abbrev S1024x1 : Shape := ⟨2, ![1024, 1]⟩
abbrev S1x1024 : Shape := ⟨2, ![1, 1024]⟩
abbrev S1024x4096 : Shape := ⟨2, ![1024, 4096]⟩
abbrev S1024x2048 : Shape := ⟨2, ![1024, 2048]⟩
abbrev S1024x584 : Shape := ⟨2, ![1024, 584]⟩
abbrev S1024x8 : Shape := ⟨2, ![1024, 8]⟩
abbrev S1024x432 : Shape := ⟨2, ![1024, 432]⟩
abbrev S1024x7168 : Shape := ⟨2, ![1024, 7168]⟩

abbrev nBuf : Space → Nat
  | .hbm => 27
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x9808, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x9808, .f32⟩
  | .hbm, ⟨20, _⟩ => ⟨S1024x4096, .f32⟩
  | .hbm, ⟨21, _⟩ => ⟨S1024x2048, .f32⟩
  | .hbm, ⟨22, _⟩ => ⟨S1024x584, .f32⟩
  | .hbm, ⟨23, _⟩ => ⟨S1024x8, .f32⟩
  | .hbm, ⟨24, _⟩ => ⟨S_, .f32⟩
  | .hbm, ⟨25, _⟩ => ⟨S1024x432, .f32⟩
  | .hbm, ⟨26, _⟩ => ⟨S1024x7168, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.MlstmMath.lean ====
/- Two facts about extended reals that the mLSTM call rests on: a running sum along an axis is a sum over the
   positions up to the one asked for, and the two ways of writing log-sigmoid agree at every extended real. -/
module

public import proofs.«01_k».proof.Proof.Gen.ReferenceIdeal.Read
public import Idealize.ShloMosaic.Lib.Pointwise
public import Idealize.ShloMosaic.Lib.Claim

@[expose] public section

set_option maxRecDepth 16384

noncomputable section

namespace Cert.Mlstm

open Cert.ReferenceIdeal Idealize.ShloMosaic

/-- A left fold of additions is the start plus the sum of the list. -/
theorem foldl_add_eq {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The window of 64 rows has one position per row. -/
theorem window_row : ∀ n : Fin (⟨3, ![1, 64, 1]⟩ : Shape).numel,
    ((⟨3, ![1, 64, 1]⟩ : Shape).rowMajor.symm n 0).val = 0 ∧ ((⟨3, ![1, 64, 1]⟩ : Shape).rowMajor.symm n 1).val = n.val
      ∧ ((⟨3, ![1, 64, 1]⟩ : Shape).rowMajor.symm n 2).val = 0 := by
  decide +kernel

/-- A window of 64 positions that ends at `l`, read from a column of 64, holds the positions up to `l`. -/
theorem sum_shift (f : Fin 64 → EReal) (l : Fin 64) :
    (∑ w : Fin 64, if h : 63 ≤ l.val + w.val then f ⟨l.val + w.val - 63, by omega⟩ else 0)
      = ∑ s : Fin 64, if s ≤ l then f s else 0 := by
  refine Fintype.sum_equiv (Equiv.addRight (l + 1)) _ _ fun w => ?_
  have hv : ((w + (l + 1) : Fin 64)).val = (w.val + l.val + 1) % 64 := by
    simp only [Fin.val_add, Fin.val_one]; omega
  have e : (Equiv.addRight (l + 1)) w = w + (l + 1) := rfl
  rw [e]
  by_cases h : 63 ≤ l.val + w.val
  · rw [dif_pos h, if_pos (by rw [Fin.le_def, hv]; omega)]
    refine congrArg f (Fin.ext ?_)
    rw [hv]
    show l.val + w.val - 63 = _
    omega
  · rw [dif_neg h, if_neg (by rw [Fin.le_def, hv]; omega)]

/-- The running sum down the rows, as it prints: row `l` holds the sum of the rows up to `l`. -/
theorem cumsum_at (x : FVec Ideal S16x64x4 .f32) (init : FVec Ideal S_ .f32) (hinit : ∀ i, init i = 0)
    (h : S16x64x4.ReduceWindows (![1, 64, 1] : Fin 3 → Nat) ![1, 1, 1] ![0, 63, 0] ![0, 0, 0] S16x64x4)
    (hu : 0 < S_.numel) (t : Fin 16) (l : Fin 64) (c : Fin 4) :
    Host.reduceWindowAdd ![1, 64, 1] ![1, 1, 1] ![0, 63, 0] ![0, 0, 0] x init h hu (ix3 t l c)
      = ∑ s : Fin 64, if s ≤ l then (show EReal from x (ix3 t s c)) else 0 := by
  unfold Host.reduceWindowAdd
  rw [Ideal.hostReduceWindowAdd_def, hinit]
  unfold Ideal.hostReduceWindowAdd Host.reduceWindow
  rw [← sum_shift]
  refine (foldl_add_eq _ _ _).trans ?_
  rw [zero_add, ← Fin.sum_univ_def]
  have hn : (⟨3, ![1, 64, 1]⟩ : Shape).numel = 64 := by decide
  refine Fintype.sum_equiv (finCongr hn) _ _ fun n => ?_
  obtain ⟨w0, w1, w2⟩ := window_row n
  have ht := t.isLt
  have hl := l.isLt
  have hc := c.isLt
  have hnn : n.val < 64 := lt_of_lt_of_eq n.isLt hn
  by_cases hh : 63 ≤ l.val + n.val
  · rw [dif_pos (show 63 ≤ l.val + (finCongr hn n).val from hh), dif_pos]
    · refine congrArg x (funext fun a => Fin.ext ?_)
      match a with
      | ⟨0, _⟩ => show t.val * 1 + ((⟨3, ![1, 64, 1]⟩ : Shape).rowMajor.symm n 0).val - 0 = t.val; rw [w0]; omega
      | ⟨1, _⟩ => show l.val * 1 + ((⟨3, ![1, 64, 1]⟩ : Shape).rowMajor.symm n 1).val - 63 = l.val + n.val - 63; rw [w1]; omega
      | ⟨2, _⟩ => show c.val * 1 + ((⟨3, ![1, 64, 1]⟩ : Shape).rowMajor.symm n 2).val - 0 = c.val; rw [w2]; omega
    · intro a
      match a with
      | ⟨0, _⟩ =>
        show 0 ≤ t.val * 1 + ((⟨3, ![1, 64, 1]⟩ : Shape).rowMajor.symm n 0).val ∧ t.val * 1 + ((⟨3, ![1, 64, 1]⟩ : Shape).rowMajor.symm n 0).val - 0 < 16
        rw [w0]; omega
      | ⟨1, _⟩ =>
        show 63 ≤ l.val * 1 + ((⟨3, ![1, 64, 1]⟩ : Shape).rowMajor.symm n 1).val ∧ l.val * 1 + ((⟨3, ![1, 64, 1]⟩ : Shape).rowMajor.symm n 1).val - 63 < 64
        rw [w1]; omega
      | ⟨2, _⟩ =>
        show 0 ≤ c.val * 1 + ((⟨3, ![1, 64, 1]⟩ : Shape).rowMajor.symm n 2).val ∧ c.val * 1 + ((⟨3, ![1, 64, 1]⟩ : Shape).rowMajor.symm n 2).val - 0 < 4
        rw [w2]; omega
  · rw [dif_neg (show ¬ 63 ≤ l.val + (finCongr hn n).val from hh), dif_neg]
    intro hin
    have h1 := hin 1
    change 63 ≤ l.val * 1 + ((⟨3, ![1, 64, 1]⟩ : Shape).rowMajor.symm n 1).val ∧ _ at h1
    rw [w1] at h1
    omega

/-- `log (1 + exp y)` of a `y` that is at most zero is a real number. -/
theorem log1p_exp_real (y : EReal) (hy : y ≤ 0) : ∃ r : ℝ, Ideal.log1p (Ideal.exp y) = (r : EReal) := by
  induction y with
  | bot => exact ⟨Real.log 1, by
      show Ideal.log (1 + 0) = _
      rw [add_zero]
      show (if (1 : ℝ) ≤ 0 then ⊥ else (Real.log 1 : EReal)) = _
      rw [if_neg (by norm_num)]⟩
  | top => exact absurd hy (by simp)
  | coe a => exact ⟨Real.log (1 + Real.exp a), by
      show Ideal.log ((1 : EReal) + ((Real.exp a : ℝ) : EReal)) = _
      rw [show (1 : EReal) + ((Real.exp a : ℝ) : EReal) = ((1 + Real.exp a : ℝ) : EReal) by norm_cast]
      show (if (1 + Real.exp a : ℝ) ≤ 0 then ⊥ else (Real.log (1 + Real.exp a) : EReal)) = _
      rw [if_neg (not_le.2 (by positivity))]⟩

/-- The two ways of writing log-sigmoid agree at every extended real. -/
theorem logsig_eq (x : EReal) : min x 0 - Ideal.log1p (Ideal.exp (0 - max x (-x)))
    = -(max (-x) 0 + Ideal.log1p (Ideal.exp (-max (-x) (- -x)))) := by
  have e : -max (-x) (- -x) = 0 - max x (-x) := by
    rw [neg_neg, max_comm, zero_sub]
  rw [e]
  obtain ⟨L, hL⟩ := log1p_exp_real (0 - max x (-x)) (by
    rw [zero_sub, EReal.neg_le, neg_zero]
    rcases le_total 0 x with h | h
    · exact h.trans (le_max_left _ _)
    · exact (by rwa [EReal.le_neg, neg_zero] : (0 : EReal) ≤ -x).trans (le_max_right _ _))
  rw [hL, EReal.neg_add (Or.inr (EReal.coe_ne_top _)) (Or.inr (EReal.coe_ne_bot _))]
  congr 1
  rcases le_total 0 x with h | h
  · rw [min_eq_right h, max_eq_right (by rwa [EReal.neg_le, neg_zero]), neg_zero]
  · rw [min_eq_left h, max_eq_left (by rwa [EReal.le_neg, neg_zero]), neg_neg]

/-- A comparison's bit, widened and read as a number. -/
theorem bit_eq (p : Prop) [Decidable p] :
    FloatOps.sitofp (F := Ideal) .f32 (BitVec.setWidth 32 (BitVec.ofBool (decide p))) = (if p then (1 : EReal) else 0) := by
  by_cases h : p
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- A row of a mask of ones up to the diagonal picks a prefix of the sum. -/
theorem sum_bit_mul {n : ℕ} (p : Fin n → Prop) [DecidablePred p] (f : Fin n → EReal) :
    (∑ x, (if p x then (1 : EReal) else 0) * f x) = ∑ x, if p x then f x else 0 :=
  Finset.sum_congr rfl fun x _ => by by_cases h : p x <;> simp [h]

/-- A row of ones at one lane picks that lane. -/
theorem onehot_sum (a : ℕ) (ha : 72 + a < 128) (f : Fin 128 → EReal) :
    (∑ x : Fin 128, FloatOps.sitofp (F := Ideal) .f32 (BitVec.setWidth 32 (IntOp.cmpi .eq (BitVec.ofNat 32 x.val) (IntOp.addi (BitVec.ofNat 32 a) 72#32))) * f x : EReal) = f ⟨72 + a, ha⟩ := by
  have e : ∀ x : Fin 128, IntOp.cmpi .eq (BitVec.ofNat 32 x.val) (IntOp.addi (BitVec.ofNat 32 a) 72#32) = BitVec.ofBool (decide (x = ⟨72 + a, ha⟩)) := by
    intro x
    have h : IntOp.addi (BitVec.ofNat 32 a) 72#32 = BitVec.ofNat 32 (72 + a) := by
      show BitVec.ofNat 32 a + BitVec.ofNat 32 72 = _
      rw [← BitVec.ofNat_add, Nat.add_comm]
    rw [h]
    show BitVec.ofBool (BitVec.ofNat 32 x.val == BitVec.ofNat 32 (72 + a)) = _
    congr 1
    rw [Bool.eq_iff_iff, beq_iff_eq, decide_eq_true_eq, Fin.ext_iff]
    constructor
    · intro q
      have q' := congrArg BitVec.toNat q
      simp only [BitVec.toNat_ofNat] at q'
      have := x.isLt
      show x.val = 72 + a
      omega
    · intro q
      rw [show x.val = 72 + a from q]
  have s : ∀ x : Fin 128, (FloatOps.sitofp (F := Ideal) .f32 (BitVec.setWidth 32 (IntOp.cmpi .eq (BitVec.ofNat 32 x.val) (IntOp.addi (BitVec.ofNat 32 a) 72#32))) : EReal) = if x = ⟨72 + a, ha⟩ then 1 else 0 := fun x => by
    rw [e x]; exact bit_eq _
  rw [Finset.sum_congr rfl fun x _ => congrArg (· * f x) (s x), sum_bit_mul, Finset.sum_ite_eq' Finset.univ, if_pos (Finset.mem_univ _)]

/-- The bit that the reference's lower-triangular mask holds. -/
theorem tril_bit : ∀ l s : Fin 64, Scalar.select (IntOp.cmpi .sge (IntOp.addi (BitVec.ofNat 32 l.val) 0#32) (BitVec.ofNat 32 s.val)) 1#1 0#1
    = BitVec.ofBool (decide (s.val ≤ l.val)) := by
  decide +kernel

end Cert.Mlstm
-- ==== Proof.MlstmHost.lean ====
/- The operands the mLSTM call's host code lays out: the activations at their columns of the combined projection, the
   gates' biases at their lanes. -/
module

public import proofs.«01_k».proof.Proof.Gen.KernelIdeal.Value
public import proofs.«01_k».proof.Proof.MlstmMath
public import Idealize.ShloMosaic.Lib.Routing.OpsOne
public import Idealize.ShloMosaic.Lib.Pipeline.ValueKit
public import Idealize.ShloMosaic.Lib.Pipeline.ReadBack

@[expose] public section

set_option maxRecDepth 16384

noncomputable section

namespace Cert.KernelIdeal.Mlstm

open Cert.KernelIdeal Cert.KernelIdeal.Gen Idealize.ShloMosaic Idealize.ShloMosaic.TcCoe Idealize.SL.Sem

variable (m : (ℓ : Loc nD τ sig) → Buf (Elt Ideal) ℓ)

/-- The buffers after the first `n` host operations. -/
abbrev W (n : ℕ) (c : Dev nD) : Valuation τ sig (Elt Ideal) := StableHlo.after ((hostOps0 (F := Ideal)).take n) (fun b => m (c, b))

/-- The contents after a list of operations, split after the first `n`. -/
theorem after_split : ∀ (n : ℕ) (ops : List (HloOp τ sig (Elt Ideal))) (σ : Valuation τ sig (Elt Ideal)),
    StableHlo.after ops σ = StableHlo.after (ops.drop n) (StableHlo.after (ops.take n) σ)
  | 0, _, _ => rfl
  | _ + 1, [], _ => rfl
  | n + 1, op :: ops, σ => after_split n ops (op.result σ)

/-- The combined projection is the concatenation of its seven parts. -/
theorem V5 (c : Dev nD) : V m c main_v5 = concatenate S16x64x7168 2 [⟨S16x64x1024, (W m 9 c (Proc.devRef .tc main_arg0) : FVec Ideal S16x64x1024 .f32)⟩,
   ⟨S16x64x1024, (W m 9 c (Proc.devRef .tc main_arg1) : FVec Ideal S16x64x1024 .f32)⟩,
   ⟨S16x64x1024, (W m 9 c (Proc.devRef .tc main_arg2) : FVec Ideal S16x64x1024 .f32)⟩,
   ⟨S16x64x1024, (W m 9 c (Proc.devRef .tc main_arg3) : FVec Ideal S16x64x1024 .f32)⟩,
   ⟨S16x64x2560, (W m 9 c (Proc.devRef .tc main_v3) : FVec Ideal S16x64x2560 .f32)⟩,
   ⟨S16x64x128, (W m 9 c (Proc.devRef .tc main_v2) : FVec Ideal S16x64x128 .f32)⟩,
   ⟨S16x64x384, (W m 9 c (Proc.devRef .tc main_v4) : FVec Ideal S16x64x384 .f32)⟩] concatenates_S16x64x1024_S16x64x1024_S16x64x1024_S16x64x1024_S16x64x2560_S16x64x128_S16x64x384_S16x64x7168_d2 := by
  refine (congrFun (after_split 9 hostOps0 _) _).trans ?_
  refine (congrFun (StableHlo.after_cons _ ((hostOps0 (F := Ideal)).drop 10) _) _).trans ?_
  refine (StableHlo.after_of_forall_not_mem (b := Proc.devRef .tc main_v5) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  exact StableHlo.nary_result _ _ _ _ _ _

/-- The small columns are the concatenation of their four parts. -/
theorem W2 (c : Dev nD) : W m 9 c (Proc.devRef .tc main_v2) = concatenate S16x64x128 2 [⟨S16x64x72, (W m 4 c (Proc.devRef .tc main_v0) : FVec Ideal S16x64x72 .f32)⟩,
   ⟨S16x64x4, (W m 4 c (Proc.devRef .tc main_arg4) : FVec Ideal S16x64x4 .f32)⟩,
   ⟨S16x64x4, (W m 4 c (Proc.devRef .tc main_arg5) : FVec Ideal S16x64x4 .f32)⟩,
   ⟨S16x64x48, (W m 4 c (Proc.devRef .tc main_v1) : FVec Ideal S16x64x48 .f32)⟩] concatenates_S16x64x72_S16x64x4_S16x64x4_S16x64x48_S16x64x128_d2 := by
  refine (congrFun (after_split 4 (hostOps0.take 9) _) _).trans ?_
  refine (congrFun (StableHlo.after_cons _ (((hostOps0 (F := Ideal)).take 9).drop 5) _) _).trans ?_
  refine (StableHlo.after_of_forall_not_mem (b := Proc.devRef .tc main_v2) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  exact StableHlo.nary_result _ _ _ _ _ _

theorem W4_arg4 (c : Dev nD) : W m 4 c (Proc.devRef .tc main_arg4) = m ((c : Thread nD τ).loc main_arg4) :=
  StableHlo.after_of_forall_not_mem (b := Proc.devRef .tc main_arg4) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem W4_arg5 (c : Dev nD) : W m 4 c (Proc.devRef .tc main_arg5) = m ((c : Thread nD τ).loc main_arg5) :=
  StableHlo.after_of_forall_not_mem (b := Proc.devRef .tc main_arg5) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem W9_arg0 (c : Dev nD) : W m 9 c (Proc.devRef .tc main_arg0) = m ((c : Thread nD τ).loc main_arg0) :=
  StableHlo.after_of_forall_not_mem (b := Proc.devRef .tc main_arg0) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem W9_arg1 (c : Dev nD) : W m 9 c (Proc.devRef .tc main_arg1) = m ((c : Thread nD τ).loc main_arg1) :=
  StableHlo.after_of_forall_not_mem (b := Proc.devRef .tc main_arg1) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem W9_arg2 (c : Dev nD) : W m 9 c (Proc.devRef .tc main_arg2) = m ((c : Thread nD τ).loc main_arg2) :=
  StableHlo.after_of_forall_not_mem (b := Proc.devRef .tc main_arg2) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem W9_arg3 (c : Dev nD) : W m 9 c (Proc.devRef .tc main_arg3) = m ((c : Thread nD τ).loc main_arg3) :=
  StableHlo.after_of_forall_not_mem (b := Proc.devRef .tc main_arg3) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem z_q (c : Dev nD) (t : Fin 16) (l : Fin 64) (j : Fin 1024) :
    V m c main_v5 (ix3 t l (⟨0 + j.val, by omega⟩ : Fin 7168)) = (m ((c : Thread nD τ).loc main_arg0)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem z_k (c : Dev nD) (t : Fin 16) (l : Fin 64) (j : Fin 1024) :
    V m c main_v5 (ix3 t l (⟨1024 + j.val, by omega⟩ : Fin 7168)) = (m ((c : Thread nD τ).loc main_arg1)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem z_v (c : Dev nD) (t : Fin 16) (l : Fin 64) (j : Fin 1024) :
    V m c main_v5 (ix3 t l (⟨2048 + j.val, by omega⟩ : Fin 7168)) = (m ((c : Thread nD τ).loc main_arg2)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem z_o (c : Dev nD) (t : Fin 16) (l : Fin 64) (j : Fin 1024) :
    V m c main_v5 (ix3 t l (⟨3072 + j.val, by omega⟩ : Fin 7168)) = (m ((c : Thread nD τ).loc main_arg3)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem z_i (c : Dev nD) (t : Fin 16) (l : Fin 64) (j : Fin 4) :
    V m c main_v5 (ix3 t l (⟨6728 + j.val, by omega⟩ : Fin 7168)) = (m ((c : Thread nD τ).loc main_arg4)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem z_f (c : Dev nD) (t : Fin 16) (l : Fin 64) (j : Fin 4) :
    V m c main_v5 (ix3 t l (⟨6732 + j.val, by omega⟩ : Fin 7168)) = (m ((c : Thread nD τ).loc main_arg5)) (ix3 t l j) := by
  rw [V5, W2, W4_arg4, W4_arg5, W9_arg0, W9_arg1, W9_arg2, W9_arg3]
  have hj := j.isLt
  pointwise
  repeat first | rw [dif_neg (by omega)] | rw [dif_pos (by omega)]
  blk_ext []

theorem gate_hit (k : Fin 8) : scatter_S1x128_S2_S8_0_0_01_0.resultIdx? (ix1 k)
      (concatenate S2 0
        [⟨S1, broadcastInDim S1 ![] bcast_S_S1 (constantI S_ 32 0#32)⟩,
          ⟨S1, broadcastInDim S1 ![] bcast_S_S1 (constantI S_ 32 72#32)⟩]
        concatenates_S1_S1_S2_d0) = some (ix2 (0 : Fin 1) ⟨72 + k.val, by omega⟩) := by
  revert k
  decide +kernel

theorem gate_at (c : Dev nD) (k : Fin 8) : V m c main_v10 (ix2 (0 : Fin 1) (⟨72 + k.val, by omega⟩ : Fin 128)) = (m ((c : Thread nD τ).loc main_arg9)) (ix1 k) := by
  entry_read
  refine Routing.scatter_set_hit _ _ _ _ _ _ (fun k' hk' => ?_) (ix1 k) (gate_hit k)
  idx_vars k'
  have h1 := congrFun (Option.some.inj ((gate_hit k'0).symm.trans hk')) 1
  have h2 : 72 + k'0.val = 72 + k.val := congrArg Fin.val h1
  exact congrArg (fun q : Fin 8 => m ((c : Thread nD τ).loc main_arg9) (ix1 q)) (Fin.ext (by omega))

end Cert.KernelIdeal.Mlstm
-- ==== Proof.MlstmStage.lean ====
/- What the mLSTM call's step computes before it turns to a head: the convolved and gated queries and keys, the two
   gates, the running sums of the forget gate, and the rows of both — each as the reference's array at that place. -/
module

public import proofs.«01_k».proof.Proof.Gen.KernelIdeal.Value
public import proofs.«01_k».proof.Proof.MlstmMath
public import proofs.«01_k».proof.Proof.MlstmHost
public import Idealize.ShloMosaic.Lib.Pipeline.ValueKit
public import Idealize.ShloMosaic.Lib.Pipeline.ReadBack

@[expose] public section

set_option maxRecDepth 16384

noncomputable section

namespace Cert.KernelIdeal.Mlstm

open Cert.KernelIdeal Cert.KernelIdeal.Gen Idealize.ShloMosaic Idealize.ShloMosaic.TcCoe Idealize.SL.Sem

variable (m : (ℓ : Loc nD τ sig) → Buf (Elt Ideal) ℓ)

/-- Where each window's block lies at each grid point. -/
theorem idx : ∀ t : Fin cfg0.N, win0_0.index t = ![t.val, 0, 0] ∧ win0_1.index t = ![t.val, 0, 1] ∧ win0_2.index t = ![t.val, 0, 2]
    ∧ win0_3.index t = ![t.val, 0, 3] ∧ win0_4.index t = ![t.val, 0, 52] ∧ win0_5.index t = ![0, 0] ∧ win0_6.index t = ![0, 0]
    ∧ win0_7.index t = ![0, 0] ∧ win0_8.index t = ![0, 0] ∧ win0_9.index t = ![t.val, 0, 0, 0] ∧ win0_10.index t = ![t.val, 0, 0]
    ∧ win0_11.index t = ![t.val, 0, 0] ∧ win0_12.index t = ![t.val, 0, 0] ∧ win0_13.index t = ![t.val, 0, 0]
    ∧ win0_14.index t = ![t.val, 0, 0, 0] ∧ win0_15.index t = ![t.val, 0, 0] ∧ win0_16.index t = ![t.val, 0, 0]
    ∧ win0_17.index t = ![t.val, 0, 0] :=
  (by decide +kernel : ∀ t : Fin grid0.N, _)

/-- The stream of a grid point. -/
abbrev st (t : Fin cfg0.N) : Fin 16 := ⟨t.val, t.isLt⟩

theorem blk_q (c : Dev nD) (t : Fin cfg0.N) (l : Fin 64) (j : Fin 1024) :
    iblk m c 0 t (ix3 (0 : Fin 1) l j) = (m ((c : Thread nD τ).loc main_arg0)) (ix3 (st t) l j) := by
  refine Eq.trans ?_ (z_q m c (st t) l j)
  blk_ext [iblk, idx t]

theorem blk_k (c : Dev nD) (t : Fin cfg0.N) (l : Fin 64) (j : Fin 1024) :
    iblk m c 1 t (ix3 (0 : Fin 1) l j) = (m ((c : Thread nD τ).loc main_arg1)) (ix3 (st t) l j) := by
  refine Eq.trans ?_ (z_k m c (st t) l j)
  blk_ext [iblk, idx t]

theorem blk_v (c : Dev nD) (t : Fin cfg0.N) (l : Fin 64) (j : Fin 1024) :
    iblk m c 2 t (ix3 (0 : Fin 1) l j) = (m ((c : Thread nD τ).loc main_arg2)) (ix3 (st t) l j) := by
  refine Eq.trans ?_ (z_v m c (st t) l j)
  blk_ext [iblk, idx t]

theorem blk_o (c : Dev nD) (t : Fin cfg0.N) (l : Fin 64) (j : Fin 1024) :
    iblk m c 3 t (ix3 (0 : Fin 1) l j) = (m ((c : Thread nD τ).loc main_arg3)) (ix3 (st t) l j) := by
  refine Eq.trans ?_ (z_o m c (st t) l j)
  blk_ext [iblk, idx t]

theorem blk_i (c : Dev nD) (t : Fin cfg0.N) (l : Fin 64) (h : Fin 4) :
    iblk m c 4 t (ix3 (0 : Fin 1) l (⟨72 + h.val, by omega⟩ : Fin 128)) = (m ((c : Thread nD τ).loc main_arg4)) (ix3 (st t) l h) := by
  refine Eq.trans ?_ (z_i m c (st t) l h)
  blk_ext [iblk, idx t]

theorem bias_i (c : Dev nD) (t : Fin cfg0.N) (h : Fin 4) :
    iblk m c 5 t (ix2 (0 : Fin 1) (⟨72 + h.val, by omega⟩ : Fin 128)) = (m ((c : Thread nD τ).loc main_arg9)) (ix1 ⟨0 + h.val, by omega⟩) := by
  refine Eq.trans ?_ (gate_at m c ⟨0 + h.val, by omega⟩)
  blk_ext [iblk, idx t]

theorem blk_f (c : Dev nD) (t : Fin cfg0.N) (l : Fin 64) (h : Fin 4) :
    iblk m c 4 t (ix3 (0 : Fin 1) l (⟨76 + h.val, by omega⟩ : Fin 128)) = (m ((c : Thread nD τ).loc main_arg5)) (ix3 (st t) l h) := by
  refine Eq.trans ?_ (z_f m c (st t) l h)
  blk_ext [iblk, idx t]

theorem bias_f (c : Dev nD) (t : Fin cfg0.N) (h : Fin 4) :
    iblk m c 5 t (ix2 (0 : Fin 1) (⟨76 + h.val, by omega⟩ : Fin 128)) = (m ((c : Thread nD τ).loc main_arg9)) (ix1 ⟨4 + h.val, by omega⟩) := by
  refine Eq.trans ?_ (gate_at m c ⟨4 + h.val, by omega⟩)
  blk_ext [iblk, idx t]

theorem blk_conv (c : Dev nD) (t : Fin cfg0.N) (l : Fin 3) (j : Fin 2048) :
    iblk m c 12 t (ix3 (0 : Fin 1) l j) = (m ((c : Thread nD τ).loc main_arg6)) (ix3 (st t) l j) := by
  blk_ext [iblk, V, idx t]

/-- What the buffer of the last three frames and the chunk holds at row `i`, column `j`. -/
def buf (B A : FVec Ideal S64x1024 .f32) (C : FVec Ideal S3x2048 .f32) (i : Fin 72) (j : Fin 2048) : EReal :=
  if h : i.val < 8 then C (ix2 ⟨(i.val - 5) % 3, by omega⟩ j)
  else if h1 : j.val < 1024 then A (ix2 ⟨i.val - 8, by omega⟩ ⟨j.val, h1⟩)
  else B (ix2 ⟨i.val - 8, by omega⟩ ⟨j.val - 1024, by omega⟩)

/-- The buffer after its three stores, read at one place. -/
theorem stored_at (B A : FVec Ideal S64x1024 .f32) (C : FVec Ideal S3x2048 .f32)
    (h1 : ∀ a : Fin S72x2048.rank, (![8, 1024] : Fin 2 → ℕ) a + (![64, 1024] : Fin 2 → ℕ) a ≤ S72x2048.size a)
    (h2 : ∀ a : Fin S72x2048.rank, (![8, 0] : Fin 2 → ℕ) a + (![64, 1024] : Fin 2 → ℕ) a ≤ S72x2048.size a)
    (h3 : ∀ a : Fin S72x2048.rank, (![5, 0] : Fin 2 → ℕ) a + (![3, 2048] : Fin 2 → ℕ) a ≤ S72x2048.size a)
    (i : Fin 72) (j : Fin 2048) (hi : 5 ≤ i.val) :
    View.canon ([⟨Rect.unit (s := S72x2048) ![8, 1024] ![64, 1024] h1, B⟩, ⟨Rect.unit (s := S72x2048) ![8, 0] ![64, 1024] h2, A⟩,
      ⟨Rect.unit (s := S72x2048) ![5, 0] ![3, 2048] h3, C⟩] : List (View.Piece (Elt Ideal) S72x2048 .f32)) (ix2 i j)
      = buf B A C i j := by
  unfold buf
  have hiB := i.isLt
  have hjB := j.isLt
  by_cases c1 : i.val < 8
  · rw [dif_pos c1]
    refine (View.canon_cons_of_not_mem _ _ ?_).trans ((View.canon_cons_of_not_mem _ _ ?_).trans ?_)
    · intro hm
      have := ((Rect.mem_set_unit (inb := h1)).mp hm 0).1
      change 8 ≤ i.val at this
      omega
    · intro hm
      have := ((Rect.mem_set_unit (inb := h2)).mp hm 0).1
      change 8 ≤ i.val at this
      omega
    · have e : (ix2 i j : S72x2048.Idx) = (Rect.unit (s := S72x2048) ![5, 0] ![3, 2048] h3).emb (ix2 ⟨(i.val - 5) % 3, by omega⟩ j) := by
        refine funext fun a => Fin.ext ?_
        match a with
        | ⟨0, _⟩ => show i.val = 5 + 1 * ((i.val - 5) % 3); omega
        | ⟨1, _⟩ => show j.val = 0 + 1 * j.val; omega
      rw [e]
      exact View.canon_cons_emb _ _ _ _
  · rw [dif_neg c1]
    by_cases c2 : j.val < 1024
    · rw [dif_pos c2]
      refine (View.canon_cons_of_not_mem _ _ ?_).trans ?_
      · intro hm
        have := ((Rect.mem_set_unit (inb := h1)).mp hm 1).1
        change 1024 ≤ j.val at this
        omega
      · have e : (ix2 i j : S72x2048.Idx) = (Rect.unit (s := S72x2048) ![8, 0] ![64, 1024] h2).emb (ix2 ⟨i.val - 8, by omega⟩ ⟨j.val, c2⟩) := by
          refine funext fun a => Fin.ext ?_
          match a with
          | ⟨0, _⟩ => show i.val = 8 + 1 * (i.val - 8); omega
          | ⟨1, _⟩ => show j.val = 0 + 1 * j.val; omega
        rw [e]
        exact View.canon_cons_emb _ _ _ _
    · rw [dif_neg c2]
      have e : (ix2 i j : S72x2048.Idx) = (Rect.unit (s := S72x2048) ![8, 1024] ![64, 1024] h1).emb (ix2 ⟨i.val - 8, by omega⟩ ⟨j.val - 1024, by omega⟩) := by
        refine funext fun a => Fin.ext ?_
        match a with
        | ⟨0, _⟩ => show i.val = 8 + 1 * (i.val - 8); omega
        | ⟨1, _⟩ => show j.val = 1024 + 1 * (j.val - 1024); omega
      rw [e]
      exact View.canon_cons_emb _ _ _ _

/-- `n` rows of the buffer from row `o` on. -/
def rows (o n : ℕ) (ho : 5 ≤ o ∧ o + n ≤ 72) (B A : FVec Ideal S64x1024 .f32) (C : FVec Ideal S3x2048 .f32) :
    FVec Ideal ⟨2, ![n, 2048]⟩ .f32 :=
  fun j => buf B A C ⟨o + (j 0).val, by have := (j 0).isLt; change _ < n at this; omega⟩ (j 1)

/-- A load of `n` rows after the three stores reads those rows. -/
theorem load_rows (o n : ℕ) (ho : 5 ≤ o ∧ o + n ≤ 72) (B A : FVec Ideal S64x1024 .f32) (C : FVec Ideal S3x2048 .f32)
    (h1 : ∀ a : Fin S72x2048.rank, (![8, 1024] : Fin 2 → ℕ) a + (![64, 1024] : Fin 2 → ℕ) a ≤ S72x2048.size a)
    (h2 : ∀ a : Fin S72x2048.rank, (![8, 0] : Fin 2 → ℕ) a + (![64, 1024] : Fin 2 → ℕ) a ≤ S72x2048.size a)
    (h3 : ∀ a : Fin S72x2048.rank, (![5, 0] : Fin 2 → ℕ) a + (![3, 2048] : Fin 2 → ℕ) a ≤ S72x2048.size a)
    (h4 : ∀ a : Fin S72x2048.rank, (![o, 0] : Fin 2 → ℕ) a + (![n, 2048] : Fin 2 → ℕ) a ≤ S72x2048.size a) :
    (View.whole cc0_scratch0).readCov ([⟨Rect.unit (s := S72x2048) ![8, 1024] ![64, 1024] h1, B⟩, ⟨Rect.unit (s := S72x2048) ![8, 0] ![64, 1024] h2, A⟩,
      ⟨Rect.unit (s := S72x2048) ![5, 0] ![3, 2048] h3, C⟩] : List (View.Piece (Elt Ideal) S72x2048 .f32))
      (Rect.unit (s := S72x2048) ![o, 0] ![n, 2048] h4).toLoadRect = rows o n ho B A C := by
  rw [View.readCov_eq_canon']
  funext j
  have hj : (j 0).val < n := (j 0).isLt
  refine Eq.trans (congrArg _ (?_ : _ = (ix2 (⟨o + (j 0).val, by omega⟩ : Fin 72) (j 1 : Fin 2048) : S72x2048.Idx))) (stored_at B A C h1 h2 h3 _ _ ?_)
  · refine funext fun a => Fin.ext ?_
    match a with
    | ⟨0, _⟩ => show o + 1 * (j 0).val = o + (j 0).val; omega
    | ⟨1, _⟩ => show 0 + 1 * (j 1).val = (j 1).val; omega
  · show 5 ≤ o + (j 0).val
    omega

/-- The rows the step loads, from row `o` of the buffer on. -/
abbrev chunk (c : Dev nD) (t : Fin cfg0.N) (o n : ℕ) (ho : 5 ≤ o ∧ o + n ≤ 72) : FVec Ideal ⟨2, ![n, 2048]⟩ .f32 :=
  rows o n ho (k0_pay5 (F := Ideal) (iblk m c 1 t)) (k0_pay4 (F := Ideal) (iblk m c 0 t)) (k0_pay3 (F := Ideal) (iblk m c 12 t))

/-- A row of the buffer is a row of the reference's concatenation of the carried frames and the chunk. -/
theorem chunk_at (c : Dev nD) (t : Fin cfg0.N) (o n : ℕ) (ho : 5 ≤ o ∧ o + n ≤ 72) (l : Fin n) (j : Fin 2048) :
    chunk m c t o n ho (ix2 l j) = (Cert.ReferenceIdeal.Read.val_main_v1 (F := Ideal) (m ((c : Thread nD τ).loc main_arg0)) (m ((c : Thread nD τ).loc main_arg1)) (m ((c : Thread nD τ).loc main_arg6))) (ix3 (st t) ⟨o + l.val - 5, by have := l.isLt; omega⟩ j) := by
  show buf _ _ _ ⟨o + l.val, _⟩ j = _
  have hl := l.isLt
  unfold buf
  pointwise [Cert.ReferenceIdeal.Read.val_main_v0, Cert.ReferenceIdeal.Read.val_main_v1, k0_pay3, k0_pay4, k0_pay5]
  by_cases c1 : o + l.val < 8
  · rw [dif_pos c1, dif_pos (by omega), blk_conv]
    blk_ext []
  · rw [dif_neg c1, dif_neg (show ¬ (o + l.val - 5 < 3) by omega)]
    by_cases c2 : j.val < 1024
    · rw [dif_pos c2, dif_pos c2, blk_q]
      blk_ext []
    · rw [dif_neg c2, dif_neg c2, blk_k]
      blk_ext []

/-- The queries and keys of the step: convolved over four frames and gated by their own logistic. -/
def QK (c : Dev nD) (t : Fin cfg0.N) : FVec Ideal S64x2048 .f32 :=
  k0_pay9 (F := Ideal) (iblk m c 6 t) (k0_pay6 (F := Ideal) (iblk m c 6 t) (iblk m c 7 t) (chunk m c t 5 64 (by decide)) (chunk m c t 6 64 (by decide))
    (chunk m c t 7 64 (by decide))) (chunk m c t 8 64 (by decide))

theorem QK_at (c : Dev nD) (t : Fin cfg0.N) (l : Fin 64) (j : Fin 2048) :
    QK m c t (ix2 l j) = (Cert.ReferenceIdeal.Read.val_main_v33 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix3 (st t) l j) := by
  unfold QK
  have h5 := fun (l : Fin 64) (j : Fin 2048) => chunk_at m c t 5 64 (by decide) l j
  have h6 := fun (l : Fin 64) (j : Fin 2048) => chunk_at m c t 6 64 (by decide) l j
  have h7 := fun (l : Fin 64) (j : Fin 2048) => chunk_at m c t 7 64 (by decide) l j
  have h8 := fun (l : Fin 64) (j : Fin 2048) => chunk_at m c t 8 64 (by decide) l j
  pointwise [Ideal.logistic, k0_pay9, k0_pay6, h5, h6, h7, h8, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_v8, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_call0_v0, Cert.ReferenceIdeal.Read.val_main_call0_v1, Cert.ReferenceIdeal.Read.val_main_call0_cst, Cert.ReferenceIdeal.Read.val_main_call0_v2, Cert.ReferenceIdeal.Read.val_main_call0_v3, Cert.ReferenceIdeal.Read.val_main_call0_cst_0, Cert.ReferenceIdeal.Read.val_main_call0_v4, Cert.ReferenceIdeal.Read.val_main_call0_v5, Cert.ReferenceIdeal.Read.val_main_v33]
  blk_point [iblk, V, idx t]

/-- The last three rows of the buffer are the frames the reference carries on. -/
theorem tail_at (c : Dev nD) (t : Fin cfg0.N) (l : Fin 3) (j : Fin 2048) :
    chunk m c t 69 3 (by decide) (ix2 l j) = (Cert.ReferenceIdeal.Read.val_main_v32 (F := Ideal) (m ((c : Thread nD τ).loc main_arg0)) (m ((c : Thread nD τ).loc main_arg1)) (m ((c : Thread nD τ).loc main_arg6))) (ix3 (st t) l j) := by
  rw [chunk_at]
  pointwise [Cert.ReferenceIdeal.Read.val_main_v32]
  blk_ext []

/-- The log of the forget gate. -/
theorem lf_at (c : Dev nD) (t : Fin cfg0.N) (l : Fin 64) (h : Fin 4) :
    (k0_pay11 (F := Ideal) (iblk m c 4 t) (iblk m c 5 t)) (ix2 l ⟨76 + h.val, by omega⟩) = (Cert.ReferenceIdeal.Read.val_main_v49 (F := Ideal) (m ((c : Thread nD τ).loc main_arg5)) (m ((c : Thread nD τ).loc main_arg9))) (ix3 (st t) l h) := by
  pointwise [k0_pay11, k0_pay10, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_call1_v0, Cert.ReferenceIdeal.Read.val_main_call1_v1, Cert.ReferenceIdeal.Read.val_main_call1_call0_cst, Cert.ReferenceIdeal.Read.val_main_call1_call0_v0, Cert.ReferenceIdeal.Read.val_main_call1_call0_v1, Cert.ReferenceIdeal.Read.val_main_call1_call0_v2, Cert.ReferenceIdeal.Read.val_main_call1_call0_v3, Cert.ReferenceIdeal.Read.val_main_call1_call0_v4, Cert.ReferenceIdeal.Read.val_main_call1_call0_v5, Cert.ReferenceIdeal.Read.val_main_call1_call0_v6, Cert.ReferenceIdeal.Read.val_main_call1_call0_v7, Cert.ReferenceIdeal.Read.val_main_call1_call0_v8, Cert.ReferenceIdeal.Read.val_main_call1_call0_v9, Cert.ReferenceIdeal.Read.val_main_call1_call0_v10, Cert.ReferenceIdeal.Read.val_main_call1_call0_v11]
  rw [if_neg (fun hne => hne rfl), blk_f, bias_f]
  exact Cert.Mlstm.logsig_eq _

/-- The input gate and the log of the forget gate side by side. -/
theorem gi_at (c : Dev nD) (t : Fin cfg0.N) (l : Fin 64) (h : Fin 4) :
    (k0_pay12 (F := Ideal) (iblk m c 4 t) (iblk m c 5 t)) (ix2 l ⟨72 + h.val, by omega⟩) = (Cert.ReferenceIdeal.Read.val_main_v44 (F := Ideal) (m ((c : Thread nD τ).loc main_arg4)) (m ((c : Thread nD τ).loc main_arg9))) (ix3 (st t) l h) := by
  pointwise [k0_pay12, k0_pay10, Cert.ReferenceIdeal.Read.val_main_v41, Cert.ReferenceIdeal.Read.val_main_v42, Cert.ReferenceIdeal.Read.val_main_v43, Cert.ReferenceIdeal.Read.val_main_v44]
  rw [blk_i, bias_i]
  word_cmp
  rw [if_neg (by omega)]

theorem gf_at (c : Dev nD) (t : Fin cfg0.N) (l : Fin 64) (h : Fin 4) :
    (k0_pay12 (F := Ideal) (iblk m c 4 t) (iblk m c 5 t)) (ix2 l ⟨76 + h.val, by omega⟩) = (Cert.ReferenceIdeal.Read.val_main_v49 (F := Ideal) (m ((c : Thread nD τ).loc main_arg5)) (m ((c : Thread nD τ).loc main_arg9))) (ix3 (st t) l h) := by
  rw [← lf_at]
  pointwise [k0_pay12]
  word_cmp
  rw [if_pos (by omega)]

/-- The running sums of the forget gate's log, as columns. -/
theorem b_at (c : Dev nD) (t : Fin cfg0.N) (l : Fin 64) (h : Fin 4) :
    (k0_pay14 (F := Ideal) (iblk m c 4 t) (iblk m c 5 t)) (ix2 l ⟨76 + h.val, by omega⟩) = (Cert.ReferenceIdeal.Read.val_main_v53 (F := Ideal) (m ((c : Thread nD τ).loc main_arg5)) (m ((c : Thread nD τ).loc main_arg9))) (ix3 (st t) h l) := by
  have hf := fun s : Fin 64 => lf_at m c t s h
  pointwise [k0_pay14, hf, Cert.ReferenceIdeal.Read.val_main_v53]
  refine Eq.trans ?_ (Cert.Mlstm.cumsum_at _ _ (fun _ => by pointwise [Cert.ReferenceIdeal.Read.val_main_call3_call0_cst, Cert.ReferenceIdeal.Read.val_main_call3_call0_v0]) _ _ (st t) l h).symm
  rw [← Cert.Mlstm.sum_bit_mul]
  refine Finset.sum_congr rfl fun x _ => ?_
  rw [← Cert.Mlstm.bit_eq]
  word_cmp
  rfl

theorem irow_at (c : Dev nD) (t : Fin cfg0.N) (h : Fin 4) (s : Fin 64) :
    k0_pay15 (k0_pay12 (F := Ideal) (iblk m c 4 t) (iblk m c 5 t)) (ix2 (⟨h.val, by omega⟩ : Fin 8) s) = (Cert.ReferenceIdeal.Read.val_main_v54 (F := Ideal) (m ((c : Thread nD τ).loc main_arg4)) (m ((c : Thread nD τ).loc main_arg9))) (ix3 (st t) h s) := by
  pointwise [k0_pay15, Cert.ReferenceIdeal.Read.val_main_v54]
  refine (Cert.Mlstm.onehot_sum h.val (by omega) _).trans ?_
  refine Eq.trans ?_ (gi_at m c t s h)
  blk_ext []

theorem frow_at (c : Dev nD) (t : Fin cfg0.N) (h : Fin 4) (s : Fin 64) :
    k0_pay15 (k0_pay12 (F := Ideal) (iblk m c 4 t) (iblk m c 5 t)) (ix2 (⟨4 + h.val, by omega⟩ : Fin 8) s) = (Cert.ReferenceIdeal.Read.val_main_v49 (F := Ideal) (m ((c : Thread nD τ).loc main_arg5)) (m ((c : Thread nD τ).loc main_arg9))) (ix3 (st t) s h) := by
  pointwise [k0_pay15]
  refine (Cert.Mlstm.onehot_sum (4 + h.val) (by omega) _).trans ?_
  refine Eq.trans ?_ (gf_at m c t s h)
  blk_ext []

theorem brow_at (c : Dev nD) (t : Fin cfg0.N) (h : Fin 4) (s : Fin 64) :
    k0_pay16 (k0_pay12 (F := Ideal) (iblk m c 4 t) (iblk m c 5 t)) (k0_pay13 (F := Ideal)) (ix2 (⟨4 + h.val, by omega⟩ : Fin 8) s) = (Cert.ReferenceIdeal.Read.val_main_v53 (F := Ideal) (m ((c : Thread nD τ).loc main_arg5)) (m ((c : Thread nD τ).loc main_arg9))) (ix3 (st t) h s) := by
  have hf := fun s : Fin 64 => frow_at m c t h s
  pointwise [k0_pay16, k0_pay13, hf, Cert.ReferenceIdeal.Read.val_main_v53]
  refine Eq.trans ?_ (Cert.Mlstm.cumsum_at _ _ (fun _ => by pointwise [Cert.ReferenceIdeal.Read.val_main_call3_call0_cst, Cert.ReferenceIdeal.Read.val_main_call3_call0_v0]) _ _ (st t) s h).symm
  rw [← Cert.Mlstm.sum_bit_mul]
  refine Finset.sum_congr rfl fun x _ => ?_
  rw [← Cert.Mlstm.bit_eq, mul_comm]
  word_cmp
  rfl

end Cert.KernelIdeal.Mlstm
-- ==== Proof.MlstmHead.lean ====
/- What the mLSTM call's step computes for one head from the head's queries, keys, values and gates: the decay matrix,
   the stabilisers, the read-out, and the three carried states — each as the reference's array at that place. -/
module

public import proofs.«01_k».proof.Proof.Gen.KernelIdeal.Value
public import proofs.«01_k».proof.Proof.MlstmMath
public import proofs.«01_k».proof.Proof.MlstmStage

public import Idealize.ShloMosaic.Lib.Pipeline.ValueKit
public import Idealize.ShloMosaic.Lib.Pipeline.ReadBack

@[expose] public section

set_option maxRecDepth 16384

noncomputable section

namespace Cert.KernelIdeal.Mlstm

open Cert.KernelIdeal Cert.KernelIdeal.Gen Idealize.ShloMosaic Idealize.ShloMosaic.TcCoe Idealize.SL.Sem

variable (m : (ℓ : Loc nD τ sig) → Buf (Elt Ideal) ℓ)

/-- The mask of the earlier frames of a step. -/
abbrev Causal : IVec S64x64 1 := k0_pay17 (iota .tc S64x64 32 [0] iota_S64x64_d0_w32) (iota .tc S64x64 32 [1] iota_S64x64_d1_w32)

/-- One head's operands, read as the reference's arrays: queries, scaled keys, values, the two gate columns and rows. -/
structure Head (c : Dev nD) (t : Fin cfg0.N) (h : Fin 4) (q k v : FVec Ideal S64x256 .f32) (b i : FVec Ideal S64x1 .f32)
    (br ir : FVec Ideal S1x64 .f32) : Prop where
  hq : ∀ (l : Fin 64) (d : Fin 256), q (ix2 l d) = (Cert.ReferenceIdeal.Read.val_main_v35 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix4 (st t) l h d)
  hk : ∀ (l : Fin 64) (d : Fin 256), k (ix2 l d) = (Cert.ReferenceIdeal.Read.val_main_v39 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix4 (st t) l h d)
  hv : ∀ (l : Fin 64) (d : Fin 256), v (ix2 l d) = (Cert.ReferenceIdeal.Read.val_main_v40 (F := Ideal) (m ((c : Thread nD τ).loc main_arg2))) (ix4 (st t) l h d)
  hb : ∀ l : Fin 64, b (ix2 l (0 : Fin 1)) = (Cert.ReferenceIdeal.Read.val_main_v53 (F := Ideal) (m ((c : Thread nD τ).loc main_arg5)) (m ((c : Thread nD τ).loc main_arg9))) (ix3 (st t) h l)
  hi : ∀ l : Fin 64, i (ix2 l (0 : Fin 1)) = (Cert.ReferenceIdeal.Read.val_main_v54 (F := Ideal) (m ((c : Thread nD τ).loc main_arg4)) (m ((c : Thread nD τ).loc main_arg9))) (ix3 (st t) h l)
  hbr : ∀ s : Fin 64, br (ix2 (0 : Fin 1) s) = (Cert.ReferenceIdeal.Read.val_main_v53 (F := Ideal) (m ((c : Thread nD τ).loc main_arg5)) (m ((c : Thread nD τ).loc main_arg9))) (ix3 (st t) h s)
  hir : ∀ s : Fin 64, ir (ix2 (0 : Fin 1) s) = (Cert.ReferenceIdeal.Read.val_main_v54 (F := Ideal) (m ((c : Thread nD τ).loc main_arg4)) (m ((c : Thread nD τ).loc main_arg9))) (ix3 (st t) h s)

variable {c : Dev nD} {t : Fin cfg0.N} {h : Fin 4} {q k v : FVec Ideal S64x256 .f32} {b i : FVec Ideal S64x1 .f32}
  {br ir : FVec Ideal S1x64 .f32} {m0 : FVec Ideal S1x1 .f32} {C0 : FVec Ideal S1x1x256x256 .f32} {n0 : FVec Ideal S1x1x256 .f32}

/-- The head's carried stabiliser. -/
abbrev Stab (c : Dev nD) (t : Fin cfg0.N) (h : Fin 4) (m0 : FVec Ideal S1x1 .f32) : Prop :=
  m0 (ix2 (0 : Fin 1) (0 : Fin 1)) = (m ((c : Thread nD τ).loc main_arg13)) (ix2 (st t) h)

/-- The head's carried matrix. -/
abbrev Mem (c : Dev nD) (t : Fin cfg0.N) (h : Fin 4) (C0 : FVec Ideal S1x1x256x256 .f32) : Prop :=
  ∀ e d : Fin 256, C0 (ix4 (0 : Fin 1) (0 : Fin 1) e d) = (m ((c : Thread nD τ).loc main_arg11)) (ix4 (st t) h e d)

/-- The head's carried normaliser. -/
abbrev Nrm (c : Dev nD) (t : Fin cfg0.N) (h : Fin 4) (n0 : FVec Ideal S1x1x256 .f32) : Prop :=
  ∀ d : Fin 256, n0 (ix3 (0 : Fin 1) (0 : Fin 1) d) = (m ((c : Thread nD τ).loc main_arg12)) (ix3 (st t) h d)

namespace Head

variable (H : Head m c t h q k v b i br ir) (hm : Stab m c t h m0) (hC : Mem m c t h C0) (hn : Nrm m c t h n0)
include H

/-- The decay matrix, −∞ above the diagonal. -/
theorem decay_at (l s : Fin 64) : k0_pay82 (F := Ideal) Causal b br ir (ix2 l s) = (Cert.ReferenceIdeal.Read.val_main_v63 (F := Ideal) (m ((c : Thread nD τ).loc main_arg4)) (m ((c : Thread nD τ).loc main_arg5)) (m ((c : Thread nD τ).loc main_arg9))) (ix4 (st t) h l s) := by
  have hb := H.hb
  have hbr := H.hbr
  have hir := H.hir
  pointwise [k0_pay82, k0_pay17, hb, hbr, hir, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_cst_0, Cert.ReferenceIdeal.Read.val_main_call4_v0, Cert.ReferenceIdeal.Read.val_main_call4_v1, Cert.ReferenceIdeal.Read.val_main_call4_v2, Cert.ReferenceIdeal.Read.val_main_v50, Cert.ReferenceIdeal.Read.val_main_v51, Cert.ReferenceIdeal.Read.val_main_c, Cert.ReferenceIdeal.Read.val_main_call2_v0, Cert.ReferenceIdeal.Read.val_main_call2_c, Cert.ReferenceIdeal.Read.val_main_call2_v1, Cert.ReferenceIdeal.Read.val_main_call2_v2, Cert.ReferenceIdeal.Read.val_main_call2_v3, Cert.ReferenceIdeal.Read.val_main_call2_v4, Cert.ReferenceIdeal.Read.val_main_call2_c_0, Cert.ReferenceIdeal.Read.val_main_call2_v5]
  word_cmp
  rw [Cert.Mlstm.tril_bit]
  by_cases e : s.val ≤ l.val
  · rw [if_pos e, decide_eq_true e]
    rfl
  · rw [if_neg e, decide_eq_false e]
    rfl

include hm

/-- The frame's stabiliser. -/
theorem stab_at (l : Fin 64) : k0_pay84 (F := Ideal) Causal b br ir m0 (ix2 l (0 : Fin 1)) = (Cert.ReferenceIdeal.Read.val_main_v68 (F := Ideal) (m ((c : Thread nD τ).loc main_arg4)) (m ((c : Thread nD τ).loc main_arg5)) (m ((c : Thread nD τ).loc main_arg9)) (m ((c : Thread nD τ).loc main_arg13))) (ix3 (st t) h l) := by
  have hb := H.hb
  have hD := H.decay_at
  have hm' : m0 (ix2 (0 : Fin 1) (0 : Fin 1)) = _ := hm
  pointwise [k0_pay84, k0_pay83, hb, hD, hm', Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_cst_1]
  rfl

/-- The weight of each frame's key and value in the new state. -/
theorem weight_at (s : Fin 64) : k0_pay89 (F := Ideal) (k0_pay86 Causal b br ir m0) (k0_pay88 b i) (ix2 s (0 : Fin 1)) = (Cert.ReferenceIdeal.Read.val_main_v104 (F := Ideal) (m ((c : Thread nD τ).loc main_arg4)) (m ((c : Thread nD τ).loc main_arg5)) (m ((c : Thread nD τ).loc main_arg9)) (m ((c : Thread nD τ).loc main_arg13))) (ix3 (st t) h s) := by
  have hb := H.hb
  have hi := H.hi
  have hM := H.stab_at m hm
  pointwise [k0_pay89, k0_pay86, k0_pay87, k0_pay88, hb, hi, hM, Cert.ReferenceIdeal.Read.val_main_v95, Cert.ReferenceIdeal.Read.val_main_v96, Cert.ReferenceIdeal.Read.val_main_v97, Cert.ReferenceIdeal.Read.val_main_v98, Cert.ReferenceIdeal.Read.val_main_v99, Cert.ReferenceIdeal.Read.val_main_v100, Cert.ReferenceIdeal.Read.val_main_v101, Cert.ReferenceIdeal.Read.val_main_v102, Cert.ReferenceIdeal.Read.val_main_v103, Cert.ReferenceIdeal.Read.val_main_v104]
  rfl

/-- The factor by which the old state fades. -/
theorem fade_at : k0_pay90 (F := Ideal) m0 (k0_pay86 Causal b br ir m0) (k0_pay87 b) (ix2 (0 : Fin 1) (0 : Fin 1)) = (Cert.ReferenceIdeal.Read.val_main_v109 (F := Ideal) (m ((c : Thread nD τ).loc main_arg4)) (m ((c : Thread nD τ).loc main_arg5)) (m ((c : Thread nD τ).loc main_arg9)) (m ((c : Thread nD τ).loc main_arg13))) (ix2 (st t) h) := by
  have hb := H.hb
  have hM := H.stab_at m hm
  have hm' : m0 (ix2 (0 : Fin 1) (0 : Fin 1)) = _ := hm
  pointwise [k0_pay90, k0_pay86, k0_pay87, hb, hM, hm', Cert.ReferenceIdeal.Read.val_main_v95, Cert.ReferenceIdeal.Read.val_main_v96, Cert.ReferenceIdeal.Read.val_main_v105, Cert.ReferenceIdeal.Read.val_main_v106, Cert.ReferenceIdeal.Read.val_main_v107, Cert.ReferenceIdeal.Read.val_main_v108, Cert.ReferenceIdeal.Read.val_main_v109]
  rfl

/-- The new matrix. -/
theorem mem_at (hC : Mem m c t h C0) (e d : Fin 256) :
    k0_pay91 (F := Ideal) v (truncf .bf16 k bitsLt_bf16_f32) m0 (k0_pay80 C0) (k0_pay86 Causal b br ir m0) (k0_pay87 b) (k0_pay88 b i)
      (ix4 (0 : Fin 1) (0 : Fin 1) e d) = (Cert.ReferenceIdeal.Read.val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg13))) (ix4 (st t) h e d) := by
  have hk := H.hk
  have hv := H.hv
  have hG := H.weight_at m hm
  have hF := H.fade_at m hm
  pointwise [k0_pay91, k0_pay80, hk, hv, hG, hF, hC, Cert.ReferenceIdeal.Read.val_main_v110, Cert.ReferenceIdeal.Read.val_main_v111, Cert.ReferenceIdeal.Read.val_main_v112, Cert.ReferenceIdeal.Read.val_main_v113, Cert.ReferenceIdeal.Read.val_main_v114, Cert.ReferenceIdeal.Read.val_main_v115, Cert.ReferenceIdeal.Read.val_main_v116, Cert.ReferenceIdeal.Read.val_main_v117, Cert.ReferenceIdeal.Read.val_main_v118]
  rfl

/-- The new normaliser. -/
theorem nrm_at (hn : Nrm m c t h n0) (d : Fin 256) :
    k0_pay92 (F := Ideal) k m0 (k0_pay81 n0) (k0_pay86 Causal b br ir m0) (k0_pay87 b) (k0_pay88 b i)
      (ix3 (0 : Fin 1) (0 : Fin 1) d) = (Cert.ReferenceIdeal.Read.val_main_v127 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) (ix3 (st t) h d) := by
  have hk := H.hk
  have hG := H.weight_at m hm
  have hF := H.fade_at m hm
  pointwise [k0_pay92, k0_pay81, hk, hG, hF, hn, Cert.ReferenceIdeal.Read.val_main_v119, Cert.ReferenceIdeal.Read.val_main_v120, Cert.ReferenceIdeal.Read.val_main_v121, Cert.ReferenceIdeal.Read.val_main_v122, Cert.ReferenceIdeal.Read.val_main_v123, Cert.ReferenceIdeal.Read.val_main_v124, Cert.ReferenceIdeal.Read.val_main_v125, Cert.ReferenceIdeal.Read.val_main_v126, Cert.ReferenceIdeal.Read.val_main_v127, Cert.ReferenceIdeal.Read.val_main_cst_3]
  rfl

/-- The new stabiliser. -/
theorem last_at : k0_pay93 (F := Ideal) (k0_pay86 Causal b br ir m0) (ix3 (0 : Fin 1) (0 : Fin 1) (0 : Fin 1)) = (Cert.ReferenceIdeal.Read.val_main_v151 (F := Ideal) (m ((c : Thread nD τ).loc main_arg4)) (m ((c : Thread nD τ).loc main_arg5)) (m ((c : Thread nD τ).loc main_arg9)) (m ((c : Thread nD τ).loc main_arg13))) (ix3 (st t) (0 : Fin 1) h) := by
  have hM := H.stab_at m hm
  pointwise [k0_pay93, k0_pay86, hM, Cert.ReferenceIdeal.Read.val_main_v95, Cert.ReferenceIdeal.Read.val_main_v96, Cert.ReferenceIdeal.Read.val_main_v151]
  rfl

/-- The read-out of the two memories, before its norm. -/
theorem out_at (hC : Mem m c t h C0) (hn : Nrm m c t h n0) (l : Fin 64) (e : Fin 256) :
    k0_pay85 (F := Ideal) Causal q (truncf .bf16 q bitsLt_bf16_f32) (truncf .bf16 k bitsLt_bf16_f32) (truncf .bf16 v bitsLt_bf16_f32) b br ir m0 C0 n0
      (ix2 l e) = (Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))) (ix4 (st t) h l e) := by
  have hq := H.hq
  have hk := H.hk
  have hv := H.hv
  have hb := H.hb
  have hD := H.decay_at
  have hM := H.stab_at m hm
  have hm' : m0 (ix2 (0 : Fin 1) (0 : Fin 1)) = _ := hm
  pointwise [k0_pay85, k0_pay80, k0_pay81, k0_pay83, hq, hk, hv, hb, hD, hM, hC, hn, hm', Cert.ReferenceIdeal.Read.val_main_v64, Cert.ReferenceIdeal.Read.val_main_v65, Cert.ReferenceIdeal.Read.val_main_v66, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v76, Cert.ReferenceIdeal.Read.val_main_v77, Cert.ReferenceIdeal.Read.val_main_v78, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_v92, Cert.ReferenceIdeal.Read.val_main_v93, Cert.ReferenceIdeal.Read.val_main_cst_2]
  exact congrArg₂ Ideal.div rfl (congrArg₂ max (congrArg _ (congrArg₂ (· + ·) rfl (congrArg₂ (· * ·) rfl
    (Finset.sum_congr rfl fun x _ => mul_comm _ _)))) (congrArg Ideal.exp (zero_sub _)))

end Head

end Cert.KernelIdeal.Mlstm
-- ==== Proof.MlstmSlices.lean ====
/- The slices of a step that make one head's operands, the gain and gate on a head's read-out, and the four heads. -/
module

public import proofs.«01_k».proof.Proof.Gen.KernelIdeal.Value
public import proofs.«01_k».proof.Proof.MlstmMath
public import proofs.«01_k».proof.Proof.MlstmStage
public import proofs.«01_k».proof.Proof.MlstmHead
public import Idealize.ShloMosaic.Lib.Pipeline.ValueKit
public import Idealize.ShloMosaic.Lib.Pipeline.ReadBack

@[expose] public section

set_option maxRecDepth 16384

noncomputable section

namespace Cert.KernelIdeal.Mlstm

open Cert.KernelIdeal Cert.KernelIdeal.Gen Idealize.ShloMosaic Idealize.ShloMosaic.TcCoe Idealize.SL.Sem

variable (m : (ℓ : Loc nD τ sig) → Buf (Elt Ideal) ℓ)

theorem ref_q (c : Dev nD) (s : Fin 16) (l : Fin 64) (h : Fin 4) (d : Fin 256) :
    (Cert.ReferenceIdeal.Read.val_main_v35 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix4 s l h d) = (Cert.ReferenceIdeal.Read.val_main_v33 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix3 s l ⟨256 * h.val + d.val, by omega⟩) := by
  pointwise [Cert.ReferenceIdeal.Read.val_main_v34, Cert.ReferenceIdeal.Read.val_main_v35]
  blk_ext []

theorem ref_k (c : Dev nD) (s : Fin 16) (l : Fin 64) (h : Fin 4) (d : Fin 256) :
    (Cert.ReferenceIdeal.Read.val_main_v37 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix4 s l h d) = (Cert.ReferenceIdeal.Read.val_main_v33 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (ix3 s l ⟨1024 + 256 * h.val + d.val, by omega⟩) := by
  pointwise [Cert.ReferenceIdeal.Read.val_main_v36, Cert.ReferenceIdeal.Read.val_main_v37]
  blk_ext []

theorem ref_v (c : Dev nD) (s : Fin 16) (l : Fin 64) (h : Fin 4) (d : Fin 256) :
    (Cert.ReferenceIdeal.Read.val_main_v40 (F := Ideal) (m ((c : Thread nD τ).loc main_arg2))) (ix4 s l h d) = (m ((c : Thread nD τ).loc main_arg2)) (ix3 s l ⟨256 * h.val + d.val, by omega⟩) := by
  pointwise [Cert.ReferenceIdeal.Read.val_main_v40]
  blk_ext []

theorem ref_i (c : Dev nD) (s : Fin 16) (h : Fin 4) (l : Fin 64) :
    (Cert.ReferenceIdeal.Read.val_main_v54 (F := Ideal) (m ((c : Thread nD τ).loc main_arg4)) (m ((c : Thread nD τ).loc main_arg9))) (ix3 s h l) = (Cert.ReferenceIdeal.Read.val_main_v44 (F := Ideal) (m ((c : Thread nD τ).loc main_arg4)) (m ((c : Thread nD τ).loc main_arg9))) (ix3 s l h) := by
  pointwise [Cert.ReferenceIdeal.Read.val_main_v54]

theorem ref_y (c : Dev nD) (s : Fin 16) (l : Fin 64) (h : Fin 4) (d : Fin 256) :
    (Cert.ReferenceIdeal.Read.val_main_v142 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix3 s l ⟨256 * h.val + d.val, by omega⟩) = (Cert.ReferenceIdeal.Read.val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix4 s l h d) := by
  pointwise [Cert.ReferenceIdeal.Read.val_main_v142]
  blk_ext []

theorem ref_g (c : Dev nD) (h : Fin 4) (d : Fin 256) :
    (Cert.ReferenceIdeal.Read.val_main_v128 (F := Ideal) (m ((c : Thread nD τ).loc main_arg10))) (ix2 h d) = (m ((c : Thread nD τ).loc main_arg10)) (ix1 ⟨256 * h.val + d.val, by omega⟩) := by
  pointwise [Cert.ReferenceIdeal.Read.val_main_v128]
  blk_ext []

/-- The operands of head `h`: its columns of the queries, of the scaled keys and of the values, and its lane or row of each gate. -/
theorem head_of (c : Dev nD) (t : Fin cfg0.N) (h : Fin 4)
    (s1 : S64x2048.Slices ![0, 256 * h.val] S64x256) (s2 : S64x2048.Slices ![0, 1024 + 256 * h.val] S64x256)
    (s3 : S64x1024.Slices ![0, 256 * h.val] S64x256) (s4 : S64x128.Slices ![0, 76 + h.val] S64x1) (s5 : S64x128.Slices ![0, 72 + h.val] S64x1)
    (s6 : S8x64.Slices ![4 + h.val, 0] S1x64) (s7 : S8x64.Slices ![h.val, 0] S1x64) :
    Head m c t h (extractStridedSlice S64x256 ![0, 256 * h.val] (QK m c t) s1)
      (mulf (extractStridedSlice S64x256 ![0, 1024 + 256 * h.val] (QK m c t) s2) (broadcast S64x256 (Scalar.ofBits .f32 0x3D800000#32)))
      (extractStridedSlice S64x256 ![0, 256 * h.val] (k0_pay19 (F := Ideal) (iblk m c 2 t)) s3)
      (extractStridedSlice S64x1 ![0, 76 + h.val] (k0_pay14 (F := Ideal) (iblk m c 4 t) (iblk m c 5 t)) s4)
      (extractStridedSlice S64x1 ![0, 72 + h.val] (k0_pay12 (F := Ideal) (iblk m c 4 t) (iblk m c 5 t)) s5)
      (extractStridedSlice S1x64 ![4 + h.val, 0] (k0_pay16 (k0_pay12 (F := Ideal) (iblk m c 4 t) (iblk m c 5 t)) (k0_pay13 (F := Ideal))) s6)
      (extractStridedSlice S1x64 ![h.val, 0] (k0_pay15 (k0_pay12 (F := Ideal) (iblk m c 4 t) (iblk m c 5 t))) s7) where
  hq l d := by
    rw [ref_q]
    refine Eq.trans (extractStridedSlice_apply _ _ _ _ (ix2 l (⟨256 * h.val + d.val, by omega⟩ : Fin 2048)) fun a => ?_) (QK_at m c t l _)
    fin_cases a <;> simp
  hk l d := by
    have hQ := QK_at m c t
    have hR := ref_k m c (st t)
    pointwise [hQ, hR, Cert.ReferenceIdeal.Read.val_main_v38, Cert.ReferenceIdeal.Read.val_main_v39, Cert.ReferenceIdeal.Read.val_main_cst]
  hv l d := by
    rw [ref_v, ← blk_v m c t l]
    refine (extractStridedSlice_apply _ _ _ _ (ix2 l (⟨256 * h.val + d.val, by omega⟩ : Fin 1024)) fun a => ?_).trans (by pointwise [k0_pay19])
    fin_cases a <;> simp
  hb l := by
    rw [← b_at m c t l h]
    refine (extractStridedSlice_apply _ _ _ _ (ix2 l (⟨76 + h.val, by omega⟩ : Fin 128)) fun a => ?_)
    fin_cases a <;> simp
  hi l := by
    rw [ref_i, ← gi_at m c t l h]
    refine (extractStridedSlice_apply _ _ _ _ (ix2 l (⟨72 + h.val, by omega⟩ : Fin 128)) fun a => ?_)
    fin_cases a <;> simp
  hbr s := by
    rw [← brow_at m c t h s]
    refine (extractStridedSlice_apply _ _ _ _ (ix2 (⟨4 + h.val, by omega⟩ : Fin 8) s) fun a => ?_)
    fin_cases a <;> simp
  hir s := by
    rw [← irow_at m c t h s]
    refine (extractStridedSlice_apply _ _ _ _ (ix2 (⟨h.val, by omega⟩ : Fin 8) s) fun a => ?_)
    fin_cases a <;> simp

/-- A head's read-out normed, with the gain `g` and the gate of its columns of `O`. -/
abbrev gated (h : Fin 4) (O : FVec Ideal S64x1024 .f32) (X : FVec Ideal S64x256 .f32) (g : FVec Ideal S1x256 .f32)
    (hs : S64x1024.Slices ![0, 256 * h.val] S64x256) : FVec Ideal S1x64x256 .bf16 :=
  shapeCast S1x64x256 (truncf .bf16 (mulf (mulf (k0_pay94 (F := Ideal) X)
    (broadcastTo S64x256 (shapeCast S1x256 g shapeCasts_S1x256_S1x256) broadcasts_S1x256_S64x256))
    (logistic (extractStridedSlice S64x256 ![0, 256 * h.val] O hs))) bitsLt_bf16_f32) shapeCasts_S64x256_S1x64x256

theorem gated_at (c : Dev nD) (t : Fin cfg0.N) (h : Fin 4) (X : FVec Ideal S64x256 .f32) (g : FVec Ideal S1x256 .f32)
    (hs : S64x1024.Slices ![0, 256 * h.val] S64x256)
    (hX : ∀ (l : Fin 64) (e : Fin 256), X (ix2 l e) = (Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))) (ix4 (st t) h l e))
    (hg : ∀ e : Fin 256, g (ix2 (0 : Fin 1) e) = (m ((c : Thread nD τ).loc main_arg10)) (ix1 ⟨256 * h.val + e.val, by omega⟩)) (l : Fin 64) (e : Fin 256) :
    gated h (k0_pay18 (F := Ideal) (iblk m c 3 t)) X g hs (ix3 (0 : Fin 1) l e)
      = (Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix3 (st t) l ⟨256 * h.val + e.val, by omega⟩) := by
  have hy := ref_y m c (st t)
  have hr := ref_g m c
  have ho := blk_o m c t
  pointwise [k0_pay94, k0_pay18, Ideal.logistic, hX, hg, ho, hr, hy, Cert.ReferenceIdeal.Read.val_main_v94, Cert.ReferenceIdeal.Read.val_main_v129, Cert.ReferenceIdeal.Read.val_main_v130, Cert.ReferenceIdeal.Read.val_main_v131, Cert.ReferenceIdeal.Read.val_main_v132, Cert.ReferenceIdeal.Read.val_main_v133, Cert.ReferenceIdeal.Read.val_main_v134, Cert.ReferenceIdeal.Read.val_main_v135, Cert.ReferenceIdeal.Read.val_main_v136, Cert.ReferenceIdeal.Read.val_main_v137, Cert.ReferenceIdeal.Read.val_main_v138, Cert.ReferenceIdeal.Read.val_main_v139, Cert.ReferenceIdeal.Read.val_main_v140, Cert.ReferenceIdeal.Read.val_main_v141, Cert.ReferenceIdeal.Read.val_main_v143, Cert.ReferenceIdeal.Read.val_main_v144, Cert.ReferenceIdeal.Read.val_main_v145, Cert.ReferenceIdeal.Read.val_main_v146, Cert.ReferenceIdeal.Read.val_main_v147, Cert.ReferenceIdeal.Read.val_main_v148, Cert.ReferenceIdeal.Read.val_main_v149, Cert.ReferenceIdeal.Read.val_main_v150, Cert.ReferenceIdeal.Read.val_main_cst_4, Cert.ReferenceIdeal.Read.val_main_cst_5, Cert.ReferenceIdeal.Read.val_main_cst_6, Cert.ReferenceIdeal.Read.val_main_cst_7, Cert.ReferenceIdeal.Read.val_main_cst_8]
  rfl

/-- Taps read from the stored frames are the convolved queries and keys. -/
theorem QK_eq (c : Dev nD) (t : Fin cfg0.N) : k0_pay9 (F := Ideal) (iblk m c 6 t) (k0_pay6 (F := Ideal) (iblk m c 6 t) (iblk m c 7 t) (by exact (View.whole cc0_scratch0).readCov ([⟨Rect.unit ![8, 1024] ![64, 1024] inb_S72x2048_S64x1024_8_1024, k0_pay5 (F := Ideal) (iblk m c 1 t)⟩, ⟨Rect.unit ![8, 0] ![64, 1024] inb_S72x2048_S64x1024_8_0, k0_pay4 (F := Ideal) (iblk m c 0 t)⟩, ⟨Rect.unit ![5, 0] ![3, 2048] inb_S72x2048_S3x2048_5_0, k0_pay3 (F := Ideal) (iblk m c 12 t)⟩] : List (View.Piece (Elt Ideal) S72x2048 .f32)) (Rect.unit ![5, 0] ![64, 2048] inb_S72x2048_S64x2048_5_0).toLoadRect) (by exact (View.whole cc0_scratch0).readCov ([⟨Rect.unit ![8, 1024] ![64, 1024] inb_S72x2048_S64x1024_8_1024, k0_pay5 (F := Ideal) (iblk m c 1 t)⟩, ⟨Rect.unit ![8, 0] ![64, 1024] inb_S72x2048_S64x1024_8_0, k0_pay4 (F := Ideal) (iblk m c 0 t)⟩, ⟨Rect.unit ![5, 0] ![3, 2048] inb_S72x2048_S3x2048_5_0, k0_pay3 (F := Ideal) (iblk m c 12 t)⟩] : List (View.Piece (Elt Ideal) S72x2048 .f32)) (Rect.unit ![6, 0] ![64, 2048] inb_S72x2048_S64x2048_6_0).toLoadRect) (by exact (View.whole cc0_scratch0).readCov ([⟨Rect.unit ![8, 1024] ![64, 1024] inb_S72x2048_S64x1024_8_1024, k0_pay5 (F := Ideal) (iblk m c 1 t)⟩, ⟨Rect.unit ![8, 0] ![64, 1024] inb_S72x2048_S64x1024_8_0, k0_pay4 (F := Ideal) (iblk m c 0 t)⟩, ⟨Rect.unit ![5, 0] ![3, 2048] inb_S72x2048_S3x2048_5_0, k0_pay3 (F := Ideal) (iblk m c 12 t)⟩] : List (View.Piece (Elt Ideal) S72x2048 .f32)) (Rect.unit ![7, 0] ![64, 2048] inb_S72x2048_S64x2048_7_0).toLoadRect)) (by exact (View.whole cc0_scratch0).readCov ([⟨Rect.unit ![8, 1024] ![64, 1024] inb_S72x2048_S64x1024_8_1024, k0_pay5 (F := Ideal) (iblk m c 1 t)⟩, ⟨Rect.unit ![8, 0] ![64, 1024] inb_S72x2048_S64x1024_8_0, k0_pay4 (F := Ideal) (iblk m c 0 t)⟩, ⟨Rect.unit ![5, 0] ![3, 2048] inb_S72x2048_S3x2048_5_0, k0_pay3 (F := Ideal) (iblk m c 12 t)⟩] : List (View.Piece (Elt Ideal) S72x2048 .f32)) (Rect.unit ![8, 0] ![64, 2048] inb_S72x2048_S64x2048_8_0).toLoadRect) = QK m c t := by
  rw [load_rows 5 64 (by decide), load_rows 6 64 (by decide), load_rows 7 64 (by decide), load_rows 8 64 (by decide)]
  rfl

theorem head0 (c : Dev nD) (t : Fin cfg0.N) : Head m c t 0 (k0_pay20 (QK m c t)) (k0_pay21 (QK m c t)) (k0_pay22 (F := Ideal) (iblk m c 2 t)) (k0_pay26 (k0_pay14 (F := Ideal) (iblk m c 4 t) (iblk m c 5 t))) (k0_pay27 (k0_pay12 (F := Ideal) (iblk m c 4 t) (iblk m c 5 t)))
    (extractStridedSlice S1x64 ![4, 0] (k0_pay16 (k0_pay12 (F := Ideal) (iblk m c 4 t) (iblk m c 5 t)) (k0_pay13 (F := Ideal))) slices_S8x64_o4_0_S1x64) (extractStridedSlice S1x64 ![0, 0] (k0_pay15 (k0_pay12 (F := Ideal) (iblk m c 4 t) (iblk m c 5 t))) slices_S8x64_o0_0_S1x64) :=
  head_of m c t 0 slices_S64x2048_o0_0_S64x256 slices_S64x2048_o0_1024_S64x256 slices_S64x1024_o0_0_S64x256
    slices_S64x128_o0_76_S64x1 slices_S64x128_o0_72_S64x1 slices_S8x64_o4_0_S1x64 slices_S8x64_o0_0_S1x64

theorem head1 (c : Dev nD) (t : Fin cfg0.N) : Head m c t 1 (k0_pay44 (QK m c t)) (k0_pay45 (QK m c t)) (k0_pay46 (k0_pay19 (F := Ideal) (iblk m c 2 t))) (k0_pay49 (k0_pay14 (F := Ideal) (iblk m c 4 t) (iblk m c 5 t))) (k0_pay50 (k0_pay12 (F := Ideal) (iblk m c 4 t) (iblk m c 5 t)))
    (extractStridedSlice S1x64 ![5, 0] (k0_pay16 (k0_pay12 (F := Ideal) (iblk m c 4 t) (iblk m c 5 t)) (k0_pay13 (F := Ideal))) slices_S8x64_o5_0_S1x64) (extractStridedSlice S1x64 ![1, 0] (k0_pay15 (k0_pay12 (F := Ideal) (iblk m c 4 t) (iblk m c 5 t))) slices_S8x64_o1_0_S1x64) :=
  head_of m c t 1 slices_S64x2048_o0_256_S64x256 slices_S64x2048_o0_1280_S64x256 slices_S64x1024_o0_256_S64x256
    slices_S64x128_o0_77_S64x1 slices_S64x128_o0_73_S64x1 slices_S8x64_o5_0_S1x64 slices_S8x64_o1_0_S1x64

theorem head2 (c : Dev nD) (t : Fin cfg0.N) : Head m c t 2 (k0_pay69 (QK m c t)) (k0_pay70 (QK m c t)) (k0_pay71 (k0_pay19 (F := Ideal) (iblk m c 2 t))) (k0_pay75 (k0_pay14 (F := Ideal) (iblk m c 4 t) (iblk m c 5 t))) (k0_pay76 (k0_pay12 (F := Ideal) (iblk m c 4 t) (iblk m c 5 t)))
    (k0_pay77 (k0_pay16 (k0_pay12 (F := Ideal) (iblk m c 4 t) (iblk m c 5 t)) (k0_pay13 (F := Ideal)))) (k0_pay78 (k0_pay15 (k0_pay12 (F := Ideal) (iblk m c 4 t) (iblk m c 5 t)))) :=
  head_of m c t 2 slices_S64x2048_o0_512_S64x256 slices_S64x2048_o0_1536_S64x256 slices_S64x1024_o0_512_S64x256
    slices_S64x128_o0_78_S64x1 slices_S64x128_o0_74_S64x1 slices_S8x64_o6_0_S1x64 slices_S8x64_o2_0_S1x64

theorem head3 (c : Dev nD) (t : Fin cfg0.N) : Head m c t 3 (k0_pay96 (QK m c t)) (k0_pay97 (QK m c t)) (k0_pay98 (k0_pay19 (F := Ideal) (iblk m c 2 t))) (k0_pay102 (k0_pay14 (F := Ideal) (iblk m c 4 t) (iblk m c 5 t))) (k0_pay103 (k0_pay12 (F := Ideal) (iblk m c 4 t) (iblk m c 5 t)))
    (extractStridedSlice S1x64 ![7, 0] (k0_pay16 (k0_pay12 (F := Ideal) (iblk m c 4 t) (iblk m c 5 t)) (k0_pay13 (F := Ideal))) slices_S8x64_o7_0_S1x64) (extractStridedSlice S1x64 ![3, 0] (k0_pay15 (k0_pay12 (F := Ideal) (iblk m c 4 t) (iblk m c 5 t))) slices_S8x64_o3_0_S1x64) :=
  head_of m c t 3 slices_S64x2048_o0_768_S64x256 slices_S64x2048_o0_1792_S64x256 slices_S64x1024_o0_768_S64x256
    slices_S64x128_o0_79_S64x1 slices_S64x128_o0_75_S64x1 slices_S8x64_o7_0_S1x64 slices_S8x64_o3_0_S1x64

end Cert.KernelIdeal.Mlstm
-- ==== Proof.MlstmValue.lean ====
/- The mLSTM call's five results, each as the reference's array: what a head leaves in its block, and the blocks together. -/
module

public import proofs.«01_k».proof.Proof.Gen.KernelIdeal.Value
public import proofs.«01_k».proof.Proof.MlstmMath
public import proofs.«01_k».proof.Proof.MlstmSlices
public import Idealize.ShloMosaic.Lib.Pipeline.ValueKit
public import Idealize.ShloMosaic.Lib.Pipeline.ReadBack

@[expose] public section

set_option maxRecDepth 16384

noncomputable section

namespace Cert.KernelIdeal.Mlstm

open Cert.KernelIdeal Cert.KernelIdeal.Gen Idealize.ShloMosaic Idealize.ShloMosaic.TcCoe Idealize.SL.Sem

variable (m : (ℓ : Loc nD τ sig) → Buf (Elt Ideal) ℓ)

theorem ld_stab (c : Dev nD) (t : Fin cfg0.N) (h : Fin 4) (hb : ∀ a, (![0, 0, h.val] : Fin 3 → ℕ) a + (![1, 1, 1] : Fin 3 → ℕ) a ≤ S1x1x4.size a) :
    Stab m c t h (k0_pay79 (F := Ideal) (by exact View.ld (k0_pay2 (F := Ideal) (iblk m c 11 t)) (Rect.unit (s := S1x1x4) ![0, 0, h.val] ![1, 1, 1] hb))) := by
  unfold Stab
  pointwise [k0_pay79, k0_pay2]
  refine Eq.trans (b := V m c main_v13 (ix3 (st t) (0 : Fin 1) h)) ?_ ?_
  · blk_ext [iblk, idx t]
  · entry_read
    pointwise

theorem ld_mem (c : Dev nD) (t : Fin cfg0.N) (h : Fin 4)
    (hb : ∀ a, (![0, h.val, 0, 0] : Fin 4 → ℕ) a + (![1, 1, 256, 256] : Fin 4 → ℕ) a ≤ S1x4x256x256.size a) :
    Mem m c t h (View.ld (iblk m c 9 t) (Rect.unit ![0, h.val, 0, 0] ![1, 1, 256, 256] hb)) := by
  intro e d
  refine (View.ld_unit_apply_of _ _ _ _ _ (ix4 (0 : Fin 1) h e d) ?_).trans ?_
  · intro a
    fin_cases a <;> simp
  blk_ext [iblk, V, idx t]

theorem ld_nrm (c : Dev nD) (t : Fin cfg0.N) (h : Fin 4)
    (hb : ∀ a, (![0, h.val, 0] : Fin 3 → ℕ) a + (![1, 1, 256] : Fin 3 → ℕ) a ≤ S1x4x256.size a) :
    Nrm m c t h (View.ld (iblk m c 10 t) (Rect.unit ![0, h.val, 0] ![1, 1, 256] hb)) := by
  intro d
  refine (View.ld_unit_apply_of _ _ _ _ _ (ix3 (0 : Fin 1) h d) ?_).trans ?_
  · intro a
    fin_cases a <;> simp
  blk_ext [iblk, V, idx t]

theorem ld_gain (c : Dev nD) (t : Fin cfg0.N) (h : Fin 4)
    (hb : ∀ a, (![0, 256 * h.val] : Fin 2 → ℕ) a + (![1, 256] : Fin 2 → ℕ) a ≤ S1x1024.size a) (e : Fin 256) :
    View.ld (iblk m c 8 t) (Rect.unit ![0, 256 * h.val] ![1, 256] hb) (ix2 (0 : Fin 1) e) = (m ((c : Thread nD τ).loc main_arg10)) (ix1 ⟨256 * h.val + e.val, by omega⟩) := by
  refine (View.ld_unit_apply_of _ _ _ _ _ (ix2 (0 : Fin 1) (⟨256 * h.val + e.val, by omega⟩ : Fin 1024)) ?_).trans ?_
  · intro a
    fin_cases a <;> simp
  refine Eq.trans (b := V m c main_v12 (ix2 (0 : Fin 1) (⟨256 * h.val + e.val, by omega⟩ : Fin 1024))) ?_ ?_
  · blk_ext [iblk, idx t]
  · entry_read
    pointwise

theorem one_idx (x : S1x1x1.Idx) : x = ix3 (0 : Fin 1) (0 : Fin 1) (0 : Fin 1) := by
  blk_ext []

/-- Four stores that are blocks of `G` over an earlier one, the four covering the array, leave `G`. -/
theorem canon_heads {s : Shape} {e : EltTy} (G : s.Idx → Elt Ideal e) (p3 p2 p1 p0 p : View.Piece (Elt Ideal) s e)
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, ∃ q ∈ [p3, p2, p1, p0], y ∈ q.1.set) (y : s.Idx) : View.canon [p3, p2, p1, p0, p] y = G y :=
  View.canon_append_of_piecesOf G [p] [p3, p2, p1, p0] ⟨h3, h2, h1, h0, trivial⟩ y (hc y)

/-- Four stores that are blocks of `G` and together cover the array leave `G`. -/
theorem canon_bands {s : Shape} {e : EltTy} (G : s.Idx → Elt Ideal e) (p3 p2 p1 p0 : View.Piece (Elt Ideal) s e)
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, ∃ q ∈ [p3, p2, p1, p0], y ∈ q.1.set) (y : s.Idx) : View.canon [p3, p2, p1, p0] y = G y :=
  View.canon_append_of_piecesOf G [] [p3, p2, p1, p0] ⟨h3, h2, h1, h0, trivial⟩ y (hc y)

theorem point17 (c : Dev nD) (t : Fin cfg0.N) (y : S1x3x2048.Idx) : (outsAt0 m c t).2.2.2.2 y = (Cert.ReferenceIdeal.Read.val_main_v32 (F := Ideal) (m ((c : Thread nD τ).loc main_arg0)) (m ((c : Thread nD τ).loc main_arg1)) (m ((c : Thread nD τ).loc main_arg6))) (ix3 (st t) (y 1) (y 2)) := by
  unfold outsAt0
  frame_open
  simp (disch := decide) only [↓ View.readCov_skip, ↓ View.readCov_cons_toLoadRect, ↓ View.readCov_fill]
  frame_out
  rw [load_rows 69 3 (by decide)]
  have h := tail_at m c t
  idx_vars y
  pointwise [k0_pay8, h]

theorem point16 (c : Dev nD) (t : Fin cfg0.N) (y : S1x1x4.Idx) : (outsAt0 m c t).2.2.2.1 y = (Cert.ReferenceIdeal.Read.val_main_v151 (F := Ideal) (m ((c : Thread nD τ).loc main_arg4)) (m ((c : Thread nD τ).loc main_arg5)) (m ((c : Thread nD τ).loc main_arg9)) (m ((c : Thread nD τ).loc main_arg13))) (ix3 (st t) (0 : Fin 1) (y 2)) := by
  unfold outsAt0
  frame_open
  simp (disch := decide) only [↓ View.readCov_skip, ↓ View.readCov_cons_toLoadRect, ↓ View.readCov_fill]
  frame_out
  refine canon_heads (s := S1x1x4) (e := .f32) (fun y : S1x1x4.Idx => (Cert.ReferenceIdeal.Read.val_main_v151 (F := Ideal) (m ((c : Thread nD τ).loc main_arg4)) (m ((c : Thread nD τ).loc main_arg5)) (m ((c : Thread nD τ).loc main_arg9)) (m ((c : Thread nD τ).loc main_arg13))) (ix3 (st t) (0 : Fin 1) (y 2))) _ _ _ _ _ ?_ ?_ ?_ ?_ ?_ y
  · intro x
    obtain rfl := one_idx x
    exact (head3 m c t).last_at m (ld_stab m c t 3 _)
  · intro x
    obtain rfl := one_idx x
    exact (head2 m c t).last_at m (ld_stab m c t 2 _)
  · intro x
    obtain rfl := one_idx x
    exact (head1 m c t).last_at m (ld_stab m c t 1 _)
  · intro x
    obtain rfl := one_idx x
    exact (head0 m c t).last_at m (ld_stab m c t 0 _)
  · exact View.cover_of_tiledL _ ![1, 1, 1] (by sl_kernel_rfl)

theorem point15 (c : Dev nD) (t : Fin cfg0.N) (y : S1x4x256.Idx) : (outsAt0 m c t).2.2.1 y = (Cert.ReferenceIdeal.Read.val_main_v127 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) (ix3 (st t) (y 1) (y 2)) := by
  unfold outsAt0
  frame_open
  simp (disch := decide) only [↓ View.readCov_skip, ↓ View.readCov_cons_toLoadRect, ↓ View.readCov_fill]
  frame_out
  rw [QK_eq]
  refine canon_heads (s := S1x4x256) (e := .f32) (fun y : S1x4x256.Idx => (Cert.ReferenceIdeal.Read.val_main_v127 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) (ix3 (st t) (y 1) (y 2))) _ _ _ _ _ ?_ ?_ ?_ ?_ ?_ y
  · intro x
    idx_vars x
    obtain rfl : x0 = 0 := Subsingleton.elim _ _
    obtain rfl : x1 = 0 := Subsingleton.elim _ _
    refine ((head3 m c t).nrm_at m (ld_stab m c t 3 _) (ld_nrm m c t 3 _) x2).trans ?_
    blk_ext []
  · intro x
    idx_vars x
    obtain rfl : x0 = 0 := Subsingleton.elim _ _
    obtain rfl : x1 = 0 := Subsingleton.elim _ _
    refine ((head2 m c t).nrm_at m (ld_stab m c t 2 _) (ld_nrm m c t 2 _) x2).trans ?_
    blk_ext []
  · intro x
    idx_vars x
    obtain rfl : x0 = 0 := Subsingleton.elim _ _
    obtain rfl : x1 = 0 := Subsingleton.elim _ _
    refine ((head1 m c t).nrm_at m (ld_stab m c t 1 _) (ld_nrm m c t 1 _) x2).trans ?_
    blk_ext []
  · intro x
    idx_vars x
    obtain rfl : x0 = 0 := Subsingleton.elim _ _
    obtain rfl : x1 = 0 := Subsingleton.elim _ _
    refine ((head0 m c t).nrm_at m (ld_stab m c t 0 _) (ld_nrm m c t 0 _) x2).trans ?_
    blk_ext []
  · exact View.cover_of_tiledL _ ![1, 1, 256] (by sl_kernel_rfl)

theorem point14 (c : Dev nD) (t : Fin cfg0.N) (y : S1x4x256x256.Idx) : (outsAt0 m c t).2.1 y = (Cert.ReferenceIdeal.Read.val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg13))) (ix4 (st t) (y 1) (y 2) (y 3)) := by
  unfold outsAt0
  frame_open
  simp (disch := decide) only [↓ View.readCov_skip, ↓ View.readCov_cons_toLoadRect, ↓ View.readCov_fill]
  frame_out
  rw [QK_eq]
  refine canon_heads (s := S1x4x256x256) (e := .f32) (fun y : S1x4x256x256.Idx => (Cert.ReferenceIdeal.Read.val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg13))) (ix4 (st t) (y 1) (y 2) (y 3))) _ _ _ _ _ ?_ ?_ ?_ ?_ ?_ y
  · intro x
    idx_vars x
    obtain rfl : x0 = 0 := Subsingleton.elim _ _
    obtain rfl : x1 = 0 := Subsingleton.elim _ _
    refine ((head3 m c t).mem_at m (ld_stab m c t 3 _) (ld_mem m c t 3 _) x2 x3).trans ?_
    blk_ext []
  · intro x
    idx_vars x
    obtain rfl : x0 = 0 := Subsingleton.elim _ _
    obtain rfl : x1 = 0 := Subsingleton.elim _ _
    refine ((head2 m c t).mem_at m (ld_stab m c t 2 _) (ld_mem m c t 2 _) x2 x3).trans ?_
    blk_ext []
  · intro x
    idx_vars x
    obtain rfl : x0 = 0 := Subsingleton.elim _ _
    obtain rfl : x1 = 0 := Subsingleton.elim _ _
    refine ((head1 m c t).mem_at m (ld_stab m c t 1 _) (ld_mem m c t 1 _) x2 x3).trans ?_
    blk_ext []
  · intro x
    idx_vars x
    obtain rfl : x0 = 0 := Subsingleton.elim _ _
    obtain rfl : x1 = 0 := Subsingleton.elim _ _
    refine ((head0 m c t).mem_at m (ld_stab m c t 0 _) (ld_mem m c t 0 _) x2 x3).trans ?_
    blk_ext []
  · exact View.cover_of_tiledL _ ![1, 1, 256, 256] (by sl_kernel_rfl)

theorem point13 (c : Dev nD) (t : Fin cfg0.N) (y : S1x64x1024.Idx) : (outsAt0 m c t).1 y = (Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix3 (st t) (y 1) (y 2)) := by
  unfold outsAt0
  frame_open
  simp (disch := decide) only [↓ View.readCov_skip, ↓ View.readCov_cons_toLoadRect, ↓ View.readCov_fill]
  frame_out
  rw [QK_eq]
  refine canon_bands (s := S1x64x1024) (e := .bf16) (fun y : S1x64x1024.Idx => (Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix3 (st t) (y 1) (y 2))) _ _ _ _ ?_ ?_ ?_ ?_ ?_ y
  · intro x
    idx_vars x
    obtain rfl : x0 = 0 := Subsingleton.elim _ _
    refine (gated_at m c t 3 _ _ slices_S64x1024_o0_768_S64x256
      (fun l e => (head3 m c t).out_at m (ld_stab m c t 3 _) (ld_mem m c t 3 _) (ld_nrm m c t 3 _) l e) (ld_gain m c t 3 _) x1 x2).trans ?_
    blk_ext []
  · intro x
    idx_vars x
    obtain rfl : x0 = 0 := Subsingleton.elim _ _
    refine (gated_at m c t 2 _ _ slices_S64x1024_o0_512_S64x256
      (fun l e => (head2 m c t).out_at m (ld_stab m c t 2 _) (ld_mem m c t 2 _) (ld_nrm m c t 2 _) l e) (ld_gain m c t 2 _) x1 x2).trans ?_
    blk_ext []
  · intro x
    idx_vars x
    obtain rfl : x0 = 0 := Subsingleton.elim _ _
    refine (gated_at m c t 1 _ _ slices_S64x1024_o0_256_S64x256
      (fun l e => (head1 m c t).out_at m (ld_stab m c t 1 _) (ld_mem m c t 1 _) (ld_nrm m c t 1 _) l e) (ld_gain m c t 1 _) x1 x2).trans ?_
    blk_ext []
  · intro x
    idx_vars x
    obtain rfl : x0 = 0 := Subsingleton.elim _ _
    refine (gated_at m c t 0 _ _ slices_S64x1024_o0_0_S64x256
      (fun l e => (head0 m c t).out_at m (ld_stab m c t 0 _) (ld_mem m c t 0 _) (ld_nrm m c t 0 _) l e) (ld_gain m c t 0 _) x1 x2).trans ?_
    blk_ext []
  · exact View.cover_of_tiledL _ ![1, 64, 256] (by sl_kernel_rfl)

/-- The gated read-out. -/
theorem final13 (c : Dev nD) : (dats m 0 c).arrAt 13 (cfgs 0).N = (Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (dats m 0 c).arrAt_eq_of_covers 13 _ (by decide +kernel) fun t _ y => ?_
  blk_simp
  rw [after0_13]
  refine (point13 m c t y).trans ?_
  idx_vars y
  blk_ext [idx t]

/-- The new matrices. -/
theorem final14 (c : Dev nD) : (dats m 0 c).arrAt 14 (cfgs 0).N = (Cert.ReferenceIdeal.Read.val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg13))) := by
  refine (dats m 0 c).arrAt_eq_of_covers 14 _ (by decide +kernel) fun t _ y => ?_
  blk_simp
  rw [after0_14]
  refine (point14 m c t y).trans ?_
  idx_vars y
  blk_ext [idx t]

/-- The new normalisers. -/
theorem final15 (c : Dev nD) : (dats m 0 c).arrAt 15 (cfgs 0).N = (Cert.ReferenceIdeal.Read.val_main_v127 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) := by
  refine (dats m 0 c).arrAt_eq_of_covers 15 _ (by decide +kernel) fun t _ y => ?_
  blk_simp
  rw [after0_15]
  refine (point15 m c t y).trans ?_
  idx_vars y
  blk_ext [idx t]

/-- The new stabilisers. -/
theorem final16 (c : Dev nD) : (dats m 0 c).arrAt 16 (cfgs 0).N = (Cert.ReferenceIdeal.Read.val_main_v151 (F := Ideal) (m ((c : Thread nD τ).loc main_arg4)) (m ((c : Thread nD τ).loc main_arg5)) (m ((c : Thread nD τ).loc main_arg9)) (m ((c : Thread nD τ).loc main_arg13))) := by
  refine (dats m 0 c).arrAt_eq_of_covers 16 _ (by decide +kernel) fun t _ y => ?_
  blk_simp
  rw [after0_16]
  refine (point16 m c t y).trans ?_
  idx_vars y
  blk_ext [idx t]

/-- The last three frames, which the next chunk convolves over. -/
theorem final17 (c : Dev nD) : (dats m 0 c).arrAt 17 (cfgs 0).N = (Cert.ReferenceIdeal.Read.val_main_v32 (F := Ideal) (m ((c : Thread nD τ).loc main_arg0)) (m ((c : Thread nD τ).loc main_arg1)) (m ((c : Thread nD τ).loc main_arg6))) := by
  refine (dats m 0 c).arrAt_eq_of_covers 17 _ (by decide +kernel) fun t _ y => ?_
  blk_simp
  rw [after0_17]
  refine (point17 m c t y).trans ?_
  idx_vars y
  blk_ext [idx t]

end Cert.KernelIdeal.Mlstm
-- ==== Proof.FfnValue.lean ====
/- The SwiGLU feed-forward call: what one block of 512 rows holds, and the result array as the reference's term. -/
module

public import proofs.«01_k».proof.Proof.Gen.Kernel3Ideal.Value
public import proofs.«01_k».proof.Proof.Gen.Reference3Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

/-- The reference's result as a function of its four arguments. -/
abbrev REF (x : FVec Ideal ⟨2, ![16384, 1024]⟩ .f32) (g : FVec Ideal ⟨1, ![1024]⟩ .f32)
    (wi : FVec Ideal ⟨2, ![1024, 5632]⟩ .f32) (wo : FVec Ideal ⟨2, ![2816, 1024]⟩ .f32) :
    FVec Ideal ⟨2, ![16384, 1024]⟩ .f32 :=
  Cert.Reference3Ideal.Read.val_main_v19 (F := Ideal) x g wi wo

/-- Where each window's block lies at each grid point. -/
theorem idx : ∀ t : Fin cfg0.N, win0_0.index t = ![t.val, 0] ∧ win0_1.index t = ![0, 0] ∧ win0_2.index t = ![0, 0]
    ∧ win0_3.index t = ![0, 1] ∧ win0_4.index t = ![0, 0] ∧ win0_5.index t = ![t.val, 0] :=
  (by decide +kernel : ∀ t : Fin grid0.N, _)

variable (m : (ℓ : Loc nD τ sig) → Buf (Elt Ideal) ℓ)

/-- What grid point `t` leaves in the result's block is the reference's rows there. -/
theorem point (c : Dev nD) (t : Fin cfg0.N) (y : S512x1024.Idx) :
    outsAt0 m c t y = REF (m ((c : Thread nD τ).loc main_arg0)) (m ((c : Thread nD τ).loc main_arg1))
      (m ((c : Thread nD τ).loc main_arg2)) (m ((c : Thread nD τ).loc main_arg3)) (((cfg0.win 5).blk t).view.emb y) := by
  unfold outsAt0
  frame_out
  pointwise [Ideal.logistic, k0_pay3, k0_pay1, k0_pay2, REF, Cert.Reference3Ideal.Read.val_main_v0, Cert.Reference3Ideal.Read.val_main_cst, Cert.Reference3Ideal.Read.val_main_v1, Cert.Reference3Ideal.Read.val_main_v2, Cert.Reference3Ideal.Read.val_main_cst_0, Cert.Reference3Ideal.Read.val_main_v3, Cert.Reference3Ideal.Read.val_main_v4, Cert.Reference3Ideal.Read.val_main_cst_1, Cert.Reference3Ideal.Read.val_main_v5, Cert.Reference3Ideal.Read.val_main_v6, Cert.Reference3Ideal.Read.val_main_v7, Cert.Reference3Ideal.Read.val_main_v8, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_call0_v0, Cert.Reference3Ideal.Read.val_main_call0_v1, Cert.Reference3Ideal.Read.val_main_call0_cst, Cert.Reference3Ideal.Read.val_main_call0_v2, Cert.Reference3Ideal.Read.val_main_call0_v3, Cert.Reference3Ideal.Read.val_main_call0_cst_0, Cert.Reference3Ideal.Read.val_main_call0_v4, Cert.Reference3Ideal.Read.val_main_call0_v5, Cert.Reference3Ideal.Read.val_main_v16, Cert.Reference3Ideal.Read.val_main_v17, Cert.Reference3Ideal.Read.val_main_v18, Cert.Reference3Ideal.Read.val_main_v19]
  blk_point [iblk, V, idx t]

/-- The result array is the reference's result of the four arguments. -/
theorem final (c : Dev nD) : (dats m 0 c).arrAt 5 (cfgs 0).N
    = REF (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  exact point m c t y

end Cert.Kernel3Ideal.Ffn

end
-- ==== Proof.FfnRunningValue.lean ====
/- The SwiGLU feed-forward call of the running streams: what one block of 512 rows holds, and the result array as the reference's term. -/
module

public import proofs.«01_k».proof.Proof.Gen.Kernel6Ideal.Value
public import proofs.«01_k».proof.Proof.Gen.Reference6Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

/-- The reference's result as a function of its four arguments. -/
abbrev REF (x : FVec Ideal ⟨2, ![1024, 1024]⟩ .f32) (g : FVec Ideal ⟨1, ![1024]⟩ .f32)
    (wi : FVec Ideal ⟨2, ![1024, 5632]⟩ .f32) (wo : FVec Ideal ⟨2, ![2816, 1024]⟩ .f32) :
    FVec Ideal ⟨2, ![1024, 1024]⟩ .f32 :=
  Cert.Reference6Ideal.Read.val_main_v19 (F := Ideal) x g wi wo

/-- Where each window's block lies at each grid point. -/
theorem idx : ∀ t : Fin cfg0.N, win0_0.index t = ![t.val, 0] ∧ win0_1.index t = ![0, 0] ∧ win0_2.index t = ![0, 0]
    ∧ win0_3.index t = ![0, 1] ∧ win0_4.index t = ![0, 0] ∧ win0_5.index t = ![t.val, 0] :=
  (by decide +kernel : ∀ t : Fin grid0.N, _)

variable (m : (ℓ : Loc nD τ sig) → Buf (Elt Ideal) ℓ)

/-- What grid point `t` leaves in the result's block is the reference's rows there. -/
theorem point (c : Dev nD) (t : Fin cfg0.N) (y : S512x1024.Idx) :
    outsAt0 m c t y = REF (m ((c : Thread nD τ).loc main_arg0)) (m ((c : Thread nD τ).loc main_arg1))
      (m ((c : Thread nD τ).loc main_arg2)) (m ((c : Thread nD τ).loc main_arg3)) (((cfg0.win 5).blk t).view.emb y) := by
  unfold outsAt0
  frame_out
  pointwise [Ideal.logistic, k0_pay3, k0_pay1, k0_pay2, REF, Cert.Reference6Ideal.Read.val_main_v0, Cert.Reference6Ideal.Read.val_main_cst, Cert.Reference6Ideal.Read.val_main_v1, Cert.Reference6Ideal.Read.val_main_v2, Cert.Reference6Ideal.Read.val_main_cst_0, Cert.Reference6Ideal.Read.val_main_v3, Cert.Reference6Ideal.Read.val_main_v4, Cert.Reference6Ideal.Read.val_main_cst_1, Cert.Reference6Ideal.Read.val_main_v5, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_call0_v0, Cert.Reference6Ideal.Read.val_main_call0_v1, Cert.Reference6Ideal.Read.val_main_call0_cst, Cert.Reference6Ideal.Read.val_main_call0_v2, Cert.Reference6Ideal.Read.val_main_call0_v3, Cert.Reference6Ideal.Read.val_main_call0_cst_0, Cert.Reference6Ideal.Read.val_main_call0_v4, Cert.Reference6Ideal.Read.val_main_call0_v5, Cert.Reference6Ideal.Read.val_main_v16, Cert.Reference6Ideal.Read.val_main_v17, Cert.Reference6Ideal.Read.val_main_v18, Cert.Reference6Ideal.Read.val_main_v19]
  blk_point [iblk, V, idx t]

/-- The result array is the reference's result of the four arguments. -/
theorem final (c : Dev nD) : (dats m 0 c).arrAt 5 (cfgs 0).N
    = REF (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  exact point m c t y

end Cert.Kernel6Ideal.Ffn

end
-- ==== Proof.ProjValue.lean ====
/- The normalised input projection: what the kept scratch block holds, what one block of the result holds, and the
   result array as the reference's term. -/
module

public import proofs.«01_k».proof.Proof.Gen.Kernel4Ideal.Value
public import proofs.«01_k».proof.Proof.Gen.Reference4Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.SL.Sem

/-- The reference's result as a function of its three arguments. -/
abbrev REF (x : FVec Ideal ⟨2, ![16384, 1024]⟩ .f32) (g : FVec Ideal ⟨1, ![1024]⟩ .f32)
    (w : FVec Ideal ⟨2, ![1024, 9808]⟩ .f32) : FVec Ideal ⟨2, ![16384, 7168]⟩ .f32 :=
  Cert.Reference4Ideal.Read.val_main_v19 (F := Ideal) x g w

/-- The product of the normed rows and the whole weight. -/
abbrev PROD (x : FVec Ideal ⟨2, ![16384, 1024]⟩ .f32) (g : FVec Ideal ⟨1, ![1024]⟩ .f32)
    (w : FVec Ideal ⟨2, ![1024, 9808]⟩ .f32) : FVec Ideal ⟨2, ![16384, 9808]⟩ .f32 :=
  Cert.Reference4Ideal.Read.val_main_v13 (F := Ideal) x g w

/-- The column of the weight that lies at column `j` of the result, for the columns before the zeros. -/
def col (j : Fin 7168) (h : j.val < 6736) : Fin 9808 :=
  ⟨if j.val < 4096 then j.val else if j.val < 6144 then j.val + 3664 else if j.val < 6728 then j.val + 1032 else j.val - 2632,
    by split_ifs <;> omega⟩

/-- Before the zeros the reference's columns are the product's. -/
theorem ref_at (x : FVec Ideal ⟨2, ![16384, 1024]⟩ .f32) (g : FVec Ideal ⟨1, ![1024]⟩ .f32) (w : FVec Ideal ⟨2, ![1024, 9808]⟩ .f32)
    (r : Fin 16384) (j : Fin 7168) (h : j.val < 6736) : REF x g w (ix2 r j) = PROD x g w (ix2 r (col j h)) := by
  unfold REF PROD Cert.Reference4Ideal.Read.val_main_v19 Cert.Reference4Ideal.Read.val_main_v14 Cert.Reference4Ideal.Read.val_main_v15 Cert.Reference4Ideal.Read.val_main_v16 Cert.Reference4Ideal.Read.val_main_v17
  generalize Cert.Reference4Ideal.Read.val_main_v13 (F := Ideal) x g w = p
  obtain ⟨j, hj⟩ := j
  simp only at h
  rcases Nat.lt_or_ge j 4096 with h1 | h1
  · pointwise [col]
    repeat first | rw [dif_neg (by omega)] | rw [dif_pos (by omega)]
    simp only [if_pos h1]
    blk_ext []
  rcases Nat.lt_or_ge j 6144 with h2 | h2
  · pointwise [col]
    repeat first | rw [dif_neg (by omega)] | rw [dif_pos (by omega)]
    simp only [if_neg (Nat.not_lt.mpr h1), if_pos h2]
    blk_ext []
  rcases Nat.lt_or_ge j 6728 with h3 | h3
  · pointwise [col]
    repeat first | rw [dif_neg (by omega)] | rw [dif_pos (by omega)]
    simp only [if_neg (Nat.not_lt.mpr h1), if_neg (Nat.not_lt.mpr h2), if_pos h3]
    blk_ext []
  · pointwise [col]
    repeat first | rw [dif_neg (by omega)] | rw [dif_pos (by omega)]
    simp only [if_neg (Nat.not_lt.mpr h1), if_neg (Nat.not_lt.mpr h2), if_neg (Nat.not_lt.mpr h3)]
    blk_ext []

/-- Behind them it is zero. -/
theorem ref_zero (x : FVec Ideal ⟨2, ![16384, 1024]⟩ .f32) (g : FVec Ideal ⟨1, ![1024]⟩ .f32) (w : FVec Ideal ⟨2, ![1024, 9808]⟩ .f32)
    (r : Fin 16384) (j : Fin 7168) (h : ¬ j.val < 6736) : REF x g w (ix2 r j) = 0 := by
  have hj := j.isLt
  unfold REF Cert.Reference4Ideal.Read.val_main_v19
  pointwise [Cert.Reference4Ideal.Read.val_main_v18, Cert.Reference4Ideal.Read.val_main_cst_2]
  repeat first | rw [dif_neg (by omega)] | rw [dif_pos (by omega)]

/-- Where each window's block lies at each grid point. -/
theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

variable (m : (ℓ : Loc nD τ sig) → Buf (Elt Ideal) ℓ)

/-- The buffers after the first `n` host operations. -/
abbrev W (n : ℕ) (c : Dev nD) : Valuation τ sig (Elt Ideal) := StableHlo.after ((hostOps0 (F := Ideal)).take n) (fun b => m (c, b))

/-- The contents after a list of operations, split after the first `n`. -/
theorem after_split : ∀ (n : ℕ) (ops : List (HloOp τ sig (Elt Ideal))) (σ : Valuation τ sig (Elt Ideal)),
    StableHlo.after ops σ = StableHlo.after (ops.drop n) (StableHlo.after (ops.take n) σ)
  | 0, _, _ => rfl
  | _ + 1, [], _ => rfl
  | n + 1, op :: ops, σ => after_split n ops (op.result σ)

/-- The packed weight is cast. -/
theorem V6 (c : Dev nD) : V m c main_v6
    = (truncf .bf16 (W m 7 c (Proc.devRef .tc main_v5) : FVec Ideal S1024x7168 .f32) bitsLt_bf16_f32 : FVec Ideal S1024x7168 .bf16) := by
  refine (congrFun (after_split 7 hostOps0 _) _).trans ?_
  refine (congrFun (StableHlo.after_cons _ ((hostOps0 (F := Ideal)).drop 8) _) _).trans ?_
  refine (StableHlo.after_of_forall_not_mem (b := Proc.devRef .tc main_v6) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  exact StableHlo.unary_result _ _ _ _ _ _

/-- It is the concatenation of five parts. -/
theorem W7 (c : Dev nD) : W m 7 c (Proc.devRef .tc main_v5) = concatenate S1024x7168 1 [⟨S1024x4096, (W m 6 c (Proc.devRef .tc main_v0) : FVec Ideal S1024x4096 .f32)⟩,
   ⟨S1024x2048, (W m 6 c (Proc.devRef .tc main_v1) : FVec Ideal S1024x2048 .f32)⟩,
   ⟨S1024x584, (W m 6 c (Proc.devRef .tc main_v2) : FVec Ideal S1024x584 .f32)⟩,
   ⟨S1024x8, (W m 6 c (Proc.devRef .tc main_v3) : FVec Ideal S1024x8 .f32)⟩,
   ⟨S1024x432, (W m 6 c (Proc.devRef .tc main_v4) : FVec Ideal S1024x432 .f32)⟩] concatenates_S1024x4096_S1024x2048_S1024x584_S1024x8_S1024x432_S1024x7168_d1 := by
  refine (congrFun (after_split 6 (hostOps0.take 7) _) _).trans ?_
  refine (congrFun (StableHlo.after_cons _ (((hostOps0 (F := Ideal)).take 7).drop 7) _) _).trans ?_
  exact StableHlo.nary_result _ _ _ _ _ _

theorem part0 (c : Dev nD) : W m 6 c (Proc.devRef .tc main_v0) = extractStridedSlice S1024x4096 ![0, 0] (m ((c : Thread nD τ).loc main_arg2)) slices_S1024x9808_S1024x4096_0_0 := by
  simp only [W, hostOps0, List.take_succ_cons, List.take_zero]
  entry_read
  rfl

theorem part1 (c : Dev nD) : W m 6 c (Proc.devRef .tc main_v1) = extractStridedSlice S1024x2048 ![0, 7760] (m ((c : Thread nD τ).loc main_arg2)) slices_S1024x9808_S1024x2048_0_7760 := by
  simp only [W, hostOps0, List.take_succ_cons, List.take_zero]
  entry_read
  rfl

theorem part2 (c : Dev nD) : W m 6 c (Proc.devRef .tc main_v2) = extractStridedSlice S1024x584 ![0, 7176] (m ((c : Thread nD τ).loc main_arg2)) slices_S1024x9808_S1024x584_0_7176 := by
  simp only [W, hostOps0, List.take_succ_cons, List.take_zero]
  entry_read
  rfl

theorem part3 (c : Dev nD) : W m 6 c (Proc.devRef .tc main_v3) = extractStridedSlice S1024x8 ![0, 4096] (m ((c : Thread nD τ).loc main_arg2)) slices_S1024x9808_S1024x8_0_4096 := by
  simp only [W, hostOps0, List.take_succ_cons, List.take_zero]
  entry_read
  rfl

theorem part4 (c : Dev nD) : W m 6 c (Proc.devRef .tc main_v4)
    = broadcastInDim S1024x432 ![] bcast_S_S1024x432 (constant (F := Ideal) S_ .f32 0x00000000#32) := by
  simp only [W, hostOps0, List.take_succ_cons, List.take_zero]
  entry_read
  rfl

/-- Before the zeros the packed weight's columns are the weight's. -/
theorem w_at (c : Dev nD) (k : Fin 1024) (j : Fin 7168) (h : j.val < 6736) :
    V m c main_v6 (ix2 k j) = m ((c : Thread nD τ).loc main_arg2) (ix2 k (col j h)) := by
  rw [V6, W7, part0, part1, part2, part3, part4]
  generalize m ((c : Thread nD τ).loc main_arg2) = p
  obtain ⟨j, hj⟩ := j
  simp only at h
  rcases Nat.lt_or_ge j 4096 with h1 | h1
  · pointwise [col]
    repeat first | rw [dif_neg (by omega)] | rw [dif_pos (by omega)]
    simp only [if_pos h1]
    blk_ext []
  rcases Nat.lt_or_ge j 6144 with h2 | h2
  · pointwise [col]
    repeat first | rw [dif_neg (by omega)] | rw [dif_pos (by omega)]
    simp only [if_neg (Nat.not_lt.mpr h1), if_pos h2]
    blk_ext []
  rcases Nat.lt_or_ge j 6728 with h3 | h3
  · pointwise [col]
    repeat first | rw [dif_neg (by omega)] | rw [dif_pos (by omega)]
    simp only [if_neg (Nat.not_lt.mpr h1), if_neg (Nat.not_lt.mpr h2), if_pos h3]
    blk_ext []
  · pointwise [col]
    repeat first | rw [dif_neg (by omega)] | rw [dif_pos (by omega)]
    simp only [if_neg (Nat.not_lt.mpr h1), if_neg (Nat.not_lt.mpr h2), if_neg (Nat.not_lt.mpr h3)]
    blk_ext []

/-- Behind them it is zero. -/
theorem w_zero (c : Dev nD) (k : Fin 1024) (j : Fin 7168) (h : ¬ j.val < 6736) : V m c main_v6 (ix2 k j) = (0 : EReal) := by
  have hj := j.isLt
  rw [V6, W7, part0, part1, part2, part3, part4]
  pointwise
  repeat first | rw [dif_neg (by omega)] | rw [dif_pos (by omega)]

/-- Two points of one row block see the same rows. -/
theorem rows_eq (c : Dev nD) (t t' : Fin cfg0.N) (h : t.val / 7 = t'.val / 7) : iblk m c 0 t = iblk m c 0 t' := by
  funext y
  blk_ext [iblk, V, idx t, idx t']

/-- Every point sees the same gain. -/
theorem gain_eq (c : Dev nD) (t t' : Fin cfg0.N) : iblk m c 1 t = iblk m c 1 t' := by
  funext y
  blk_ext [iblk, V, idx t, idx t']

/-- After every point the scratch holds the normalised rows of that point's row block. -/
theorem scratch (c : Dev nD) : ∀ (n : ℕ) (h : n < cfg0.N),
    (outsAt0 m c n h).2 = k0_pay1 (F := Ideal) (iblk m c 0 ⟨n, h⟩) (iblk m c 1 ⟨n, h⟩)
  | n, h => by
    by_cases h0 : n % 7 = 0
    · rw [outsAt0_A m c ⟨n, h⟩ h0]
      frame_out
    · rw [outsAt0_B m c ⟨n, h⟩ h0]
      have hp : n - 1 < cfg0.N := Nat.lt_of_le_of_lt (Nat.sub_le _ _) h
      have ih := scratch c (n - 1) hp
      rw [rows_eq m c ⟨n, h⟩ ⟨n - 1, hp⟩ (by show n / 7 = (n - 1) / 7; omega), gain_eq m c ⟨n, h⟩ ⟨n - 1, hp⟩]
      exact ih
  termination_by n => n
  decreasing_by omega

/-- The columns of a normed block's product with a block of the weight are the product's at the row and the column from
    which the blocks are read. -/
theorem product (x : FVec Ideal ⟨2, ![16384, 1024]⟩ .f32) (g : FVec Ideal ⟨1, ![1024]⟩ .f32) (w : FVec Ideal ⟨2, ![1024, 9808]⟩ .f32)
    (X : FVec Ideal S2048x1024 .f32) (G : FVec Ideal S1x1024 .f32) (B : FVec Ideal S1024x1024 .bf16)
    (r : Fin 2048) (r' : Fin 16384) (j : Fin 1024) (j' : Fin 9808)
    (hX : ∀ k, X (ix2 r k) = x (ix2 r' k)) (hG : ∀ k, G (ix2 (0 : Fin 1) k) = g (ix1 k)) (hB : ∀ k, B (ix2 k j) = w (ix2 k j')) :
    k0_pay2 (F := Ideal) (k0_pay1 (F := Ideal) X G) B (ix2 r j) = PROD x g w (ix2 r' j') := by
  pointwise [k0_pay2, k0_pay1, PROD, hX, hG, hB, Cert.Reference4Ideal.Read.val_main_v0, Cert.Reference4Ideal.Read.val_main_cst, Cert.Reference4Ideal.Read.val_main_v1, Cert.Reference4Ideal.Read.val_main_v2, Cert.Reference4Ideal.Read.val_main_cst_0, Cert.Reference4Ideal.Read.val_main_v3, Cert.Reference4Ideal.Read.val_main_v4, Cert.Reference4Ideal.Read.val_main_cst_1, Cert.Reference4Ideal.Read.val_main_v5, Cert.Reference4Ideal.Read.val_main_v6, Cert.Reference4Ideal.Read.val_main_v7, Cert.Reference4Ideal.Read.val_main_v8, Cert.Reference4Ideal.Read.val_main_v9, Cert.Reference4Ideal.Read.val_main_v10, Cert.Reference4Ideal.Read.val_main_v11, Cert.Reference4Ideal.Read.val_main_v12, Cert.Reference4Ideal.Read.val_main_v13]

/-- Against a block's column of zeros it is zero. -/
theorem product_zero (X : FVec Ideal S2048x1024 .bf16) (B : FVec Ideal S1024x1024 .bf16) (r : Fin 2048) (j : Fin 1024)
    (hB : ∀ k, B (ix2 k j) = (0 : EReal)) : k0_pay2 (F := Ideal) X B (ix2 r j) = (0 : EReal) := by
  pointwise [k0_pay2, hB]
  simp only [mul_zero, Finset.sum_const_zero]

/-- What grid point `t` leaves in the result's block is the reference's rows and columns there. -/
theorem point (c : Dev nD) (t : Fin cfg0.N) (y : S2048x1024.Idx) :
    (outsAt0 m c t.val t.isLt).1 y = REF (m ((c : Thread nD τ).loc main_arg0)) (m ((c : Thread nD τ).loc main_arg1))
      (m ((c : Thread nD τ).loc main_arg2)) (((cfg0.win 3).blk t).view.emb y) := by
  have key : (outsAt0 m c t.val t.isLt).1 y
      = k0_pay2 (F := Ideal) (k0_pay1 (F := Ideal) (iblk m c 0 t) (iblk m c 1 t)) (iblk m c 2 t) y := by
    by_cases h0 : t.val % 7 = 0
    · rw [outsAt0_A m c t h0]
      frame_out
    · rw [outsAt0_B m c t h0]
      have hp : t.val - 1 < cfg0.N := Nat.lt_of_le_of_lt (Nat.sub_le _ _) t.isLt
      have ih := scratch m c (t.val - 1) hp
      rw [rows_eq m c t ⟨t.val - 1, hp⟩ (by show t.val / 7 = (t.val - 1) / 7; omega), gain_eq m c t ⟨t.val - 1, hp⟩,
        ← ih]
      frame_out
      exact congrArg (fun s => k0_pay2 (F := Ideal) s (iblk m c 2 t) y) ((Memref.isWhole_whole _).read_unread _)
  rw [key]
  have hw : ∀ (k j : Fin 1024), iblk m c 2 t (ix2 k j)
      = V m c main_v6 (ix2 k (⟨t.val % 7 * 1024 + j.val, by omega⟩ : Fin 7168)) := fun k j => by
    blk_ext [iblk, idx t]
  idx_vars y
  have ht : t.val < 56 := lt_of_lt_of_eq t.isLt (show cfg0.N = 56 from N_0)
  have hx : ∀ k, iblk m c 0 t (ix2 y0 k) = m ((c : Thread nD τ).loc main_arg0) (ix2 (⟨t.val / 7 * 2048 + y0.val, by omega⟩ : Fin 16384) k) :=
    fun k => by blk_ext [iblk, V, idx t]
  have hg : ∀ k, iblk m c 1 t (ix2 (0 : Fin 1) k) = m ((c : Thread nD τ).loc main_arg1) (ix1 k) := fun k => by
    refine Eq.trans (b := V m c main_v7 (ix2 (0 : Fin 1) k)) ?_ ?_
    · blk_ext [iblk, idx t]
    · entry_read
      pointwise
  have he : ((View.whole main_v8).slice ((win0 3).rect t)).emb (ix2 y0 y1)
      = ix2 (⟨t.val / 7 * 2048 + y0.val, by omega⟩ : Fin 16384) (⟨t.val % 7 * 1024 + y1.val, by omega⟩ : Fin 7168) := by
    blk_ext [idx t]
  refine Eq.trans ?_ (congrArg (REF _ _ _) he.symm)
  by_cases h : t.val % 7 * 1024 + y1.val < 6736
  · refine Eq.trans (product _ _ _ _ _ _ _ _ _ _ hx hg fun k => ?_) (ref_at _ _ _ _ _ h).symm
    exact (hw k y1).trans (w_at m c k _ h)
  · refine Eq.trans (product_zero _ _ _ _ fun k => ?_) (ref_zero _ _ _ _ _ h).symm
    exact (hw k y1).trans (w_zero m c k _ h)

/-- The result array is the reference's result of the three arguments. -/
theorem final (c : Dev nD) : (dats m 0 c).arrAt 3 (cfgs 0).N
    = REF (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  exact point m c t y

end Cert.Kernel4Ideal.Proj

end
-- ==== Proof.ProjRunningValue.lean ====
/- The normalised input projection of the running streams: what the kept scratch block holds, what one block of the result holds, and the
   result array as the reference's term. -/
module

public import proofs.«01_k».proof.Proof.Gen.Kernel7Ideal.Value
public import proofs.«01_k».proof.Proof.Gen.Reference7Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel7Ideal.Proj

open Cert.Kernel7Ideal Cert.Kernel7Ideal.Gen Idealize.ShloMosaic Idealize.ShloMosaic.TcCoe Idealize.SL.Sem

/-- The reference's result as a function of its three arguments. -/
abbrev REF (x : FVec Ideal ⟨2, ![1024, 1024]⟩ .f32) (g : FVec Ideal ⟨1, ![1024]⟩ .f32)
    (w : FVec Ideal ⟨2, ![1024, 9808]⟩ .f32) : FVec Ideal ⟨2, ![1024, 7168]⟩ .f32 :=
  Cert.Reference7Ideal.Read.val_main_v19 (F := Ideal) x g w

/-- The product of the normed rows and the whole weight. -/
abbrev PROD (x : FVec Ideal ⟨2, ![1024, 1024]⟩ .f32) (g : FVec Ideal ⟨1, ![1024]⟩ .f32)
    (w : FVec Ideal ⟨2, ![1024, 9808]⟩ .f32) : FVec Ideal ⟨2, ![1024, 9808]⟩ .f32 :=
  Cert.Reference7Ideal.Read.val_main_v13 (F := Ideal) x g w

/-- The column of the weight that lies at column `j` of the result, for the columns before the zeros. -/
def col (j : Fin 7168) (h : j.val < 6736) : Fin 9808 :=
  ⟨if j.val < 4096 then j.val else if j.val < 6144 then j.val + 3664 else if j.val < 6728 then j.val + 1032 else j.val - 2632,
    by split_ifs <;> omega⟩

/-- Before the zeros the reference's columns are the product's. -/
theorem ref_at (x : FVec Ideal ⟨2, ![1024, 1024]⟩ .f32) (g : FVec Ideal ⟨1, ![1024]⟩ .f32) (w : FVec Ideal ⟨2, ![1024, 9808]⟩ .f32)
    (r : Fin 1024) (j : Fin 7168) (h : j.val < 6736) : REF x g w (ix2 r j) = PROD x g w (ix2 r (col j h)) := by
  unfold REF PROD Cert.Reference7Ideal.Read.val_main_v19 Cert.Reference7Ideal.Read.val_main_v14 Cert.Reference7Ideal.Read.val_main_v15 Cert.Reference7Ideal.Read.val_main_v16 Cert.Reference7Ideal.Read.val_main_v17
  generalize Cert.Reference7Ideal.Read.val_main_v13 (F := Ideal) x g w = p
  obtain ⟨j, hj⟩ := j
  simp only at h
  rcases Nat.lt_or_ge j 4096 with h1 | h1
  · pointwise [col]
    repeat first | rw [dif_neg (by omega)] | rw [dif_pos (by omega)]
    simp only [if_pos h1]
    blk_ext []
  rcases Nat.lt_or_ge j 6144 with h2 | h2
  · pointwise [col]
    repeat first | rw [dif_neg (by omega)] | rw [dif_pos (by omega)]
    simp only [if_neg (Nat.not_lt.mpr h1), if_pos h2]
    blk_ext []
  rcases Nat.lt_or_ge j 6728 with h3 | h3
  · pointwise [col]
    repeat first | rw [dif_neg (by omega)] | rw [dif_pos (by omega)]
    simp only [if_neg (Nat.not_lt.mpr h1), if_neg (Nat.not_lt.mpr h2), if_pos h3]
    blk_ext []
  · pointwise [col]
    repeat first | rw [dif_neg (by omega)] | rw [dif_pos (by omega)]
    simp only [if_neg (Nat.not_lt.mpr h1), if_neg (Nat.not_lt.mpr h2), if_neg (Nat.not_lt.mpr h3)]
    blk_ext []

/-- Behind them it is zero. -/
theorem ref_zero (x : FVec Ideal ⟨2, ![1024, 1024]⟩ .f32) (g : FVec Ideal ⟨1, ![1024]⟩ .f32) (w : FVec Ideal ⟨2, ![1024, 9808]⟩ .f32)
    (r : Fin 1024) (j : Fin 7168) (h : ¬ j.val < 6736) : REF x g w (ix2 r j) = 0 := by
  have hj := j.isLt
  unfold REF Cert.Reference7Ideal.Read.val_main_v19
  pointwise [Cert.Reference7Ideal.Read.val_main_v18, Cert.Reference7Ideal.Read.val_main_cst_2]
  repeat first | rw [dif_neg (by omega)] | rw [dif_pos (by omega)]

/-- Where each window's block lies at each grid point. -/
theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

variable (m : (ℓ : Loc nD τ sig) → Buf (Elt Ideal) ℓ)

/-- The buffers after the first `n` host operations. -/
abbrev W (n : ℕ) (c : Dev nD) : Valuation τ sig (Elt Ideal) := StableHlo.after ((hostOps0 (F := Ideal)).take n) (fun b => m (c, b))

/-- The contents after a list of operations, split after the first `n`. -/
theorem after_split : ∀ (n : ℕ) (ops : List (HloOp τ sig (Elt Ideal))) (σ : Valuation τ sig (Elt Ideal)),
    StableHlo.after ops σ = StableHlo.after (ops.drop n) (StableHlo.after (ops.take n) σ)
  | 0, _, _ => rfl
  | _ + 1, [], _ => rfl
  | n + 1, op :: ops, σ => after_split n ops (op.result σ)

/-- The packed weight is cast. -/
theorem V6 (c : Dev nD) : V m c main_v6
    = (truncf .bf16 (W m 7 c (Proc.devRef .tc main_v5) : FVec Ideal S1024x7168 .f32) bitsLt_bf16_f32 : FVec Ideal S1024x7168 .bf16) := by
  refine (congrFun (after_split 7 hostOps0 _) _).trans ?_
  refine (congrFun (StableHlo.after_cons _ ((hostOps0 (F := Ideal)).drop 8) _) _).trans ?_
  refine (StableHlo.after_of_forall_not_mem (b := Proc.devRef .tc main_v6) _ _ (List.forall_iff_forall_mem.mp (by
    simp only [hostOps0, List.take_succ_cons, List.take_zero, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  exact StableHlo.unary_result _ _ _ _ _ _

/-- It is the concatenation of five parts. -/
theorem W7 (c : Dev nD) : W m 7 c (Proc.devRef .tc main_v5) = concatenate S1024x7168 1 [⟨S1024x4096, (W m 6 c (Proc.devRef .tc main_v0) : FVec Ideal S1024x4096 .f32)⟩,
   ⟨S1024x2048, (W m 6 c (Proc.devRef .tc main_v1) : FVec Ideal S1024x2048 .f32)⟩,
   ⟨S1024x584, (W m 6 c (Proc.devRef .tc main_v2) : FVec Ideal S1024x584 .f32)⟩,
   ⟨S1024x8, (W m 6 c (Proc.devRef .tc main_v3) : FVec Ideal S1024x8 .f32)⟩,
   ⟨S1024x432, (W m 6 c (Proc.devRef .tc main_v4) : FVec Ideal S1024x432 .f32)⟩] concatenates_S1024x4096_S1024x2048_S1024x584_S1024x8_S1024x432_S1024x7168_d1 := by
  refine (congrFun (after_split 6 (hostOps0.take 7) _) _).trans ?_
  refine (congrFun (StableHlo.after_cons _ (((hostOps0 (F := Ideal)).take 7).drop 7) _) _).trans ?_
  exact StableHlo.nary_result _ _ _ _ _ _

theorem part0 (c : Dev nD) : W m 6 c (Proc.devRef .tc main_v0) = extractStridedSlice S1024x4096 ![0, 0] (m ((c : Thread nD τ).loc main_arg2)) slices_S1024x9808_S1024x4096_0_0 := by
  simp only [W, hostOps0, List.take_succ_cons, List.take_zero]
  entry_read
  rfl

theorem part1 (c : Dev nD) : W m 6 c (Proc.devRef .tc main_v1) = extractStridedSlice S1024x2048 ![0, 7760] (m ((c : Thread nD τ).loc main_arg2)) slices_S1024x9808_S1024x2048_0_7760 := by
  simp only [W, hostOps0, List.take_succ_cons, List.take_zero]
  entry_read
  rfl

theorem part2 (c : Dev nD) : W m 6 c (Proc.devRef .tc main_v2) = extractStridedSlice S1024x584 ![0, 7176] (m ((c : Thread nD τ).loc main_arg2)) slices_S1024x9808_S1024x584_0_7176 := by
  simp only [W, hostOps0, List.take_succ_cons, List.take_zero]
  entry_read
  rfl

theorem part3 (c : Dev nD) : W m 6 c (Proc.devRef .tc main_v3) = extractStridedSlice S1024x8 ![0, 4096] (m ((c : Thread nD τ).loc main_arg2)) slices_S1024x9808_S1024x8_0_4096 := by
  simp only [W, hostOps0, List.take_succ_cons, List.take_zero]
  entry_read
  rfl

theorem part4 (c : Dev nD) : W m 6 c (Proc.devRef .tc main_v4)
    = broadcastInDim S1024x432 ![] bcast_S_S1024x432 (constant (F := Ideal) S_ .f32 0x00000000#32) := by
  simp only [W, hostOps0, List.take_succ_cons, List.take_zero]
  entry_read
  rfl

/-- Before the zeros the packed weight's columns are the weight's. -/
theorem w_at (c : Dev nD) (k : Fin 1024) (j : Fin 7168) (h : j.val < 6736) :
    V m c main_v6 (ix2 k j) = m ((c : Thread nD τ).loc main_arg2) (ix2 k (col j h)) := by
  rw [V6, W7, part0, part1, part2, part3, part4]
  generalize m ((c : Thread nD τ).loc main_arg2) = p
  obtain ⟨j, hj⟩ := j
  simp only at h
  rcases Nat.lt_or_ge j 4096 with h1 | h1
  · pointwise [col]
    repeat first | rw [dif_neg (by omega)] | rw [dif_pos (by omega)]
    simp only [if_pos h1]
    blk_ext []
  rcases Nat.lt_or_ge j 6144 with h2 | h2
  · pointwise [col]
    repeat first | rw [dif_neg (by omega)] | rw [dif_pos (by omega)]
    simp only [if_neg (Nat.not_lt.mpr h1), if_pos h2]
    blk_ext []
  rcases Nat.lt_or_ge j 6728 with h3 | h3
  · pointwise [col]
    repeat first | rw [dif_neg (by omega)] | rw [dif_pos (by omega)]
    simp only [if_neg (Nat.not_lt.mpr h1), if_neg (Nat.not_lt.mpr h2), if_pos h3]
    blk_ext []
  · pointwise [col]
    repeat first | rw [dif_neg (by omega)] | rw [dif_pos (by omega)]
    simp only [if_neg (Nat.not_lt.mpr h1), if_neg (Nat.not_lt.mpr h2), if_neg (Nat.not_lt.mpr h3)]
    blk_ext []

/-- Behind them it is zero. -/
theorem w_zero (c : Dev nD) (k : Fin 1024) (j : Fin 7168) (h : ¬ j.val < 6736) : V m c main_v6 (ix2 k j) = (0 : EReal) := by
  have hj := j.isLt
  rw [V6, W7, part0, part1, part2, part3, part4]
  pointwise
  repeat first | rw [dif_neg (by omega)] | rw [dif_pos (by omega)]

/-- Two points of one row block see the same rows. -/
theorem rows_eq (c : Dev nD) (t t' : Fin cfg0.N) (h : t.val / 7 = t'.val / 7) : iblk m c 0 t = iblk m c 0 t' := by
  funext y
  blk_ext [iblk, V, idx t, idx t']

/-- Every point sees the same gain. -/
theorem gain_eq (c : Dev nD) (t t' : Fin cfg0.N) : iblk m c 1 t = iblk m c 1 t' := by
  funext y
  blk_ext [iblk, V, idx t, idx t']

/-- After every point the scratch holds the normalised rows of that point's row block. -/
theorem scratch (c : Dev nD) : ∀ (n : ℕ) (h : n < cfg0.N),
    (outsAt0 m c n h).2 = k0_pay1 (F := Ideal) (iblk m c 0 ⟨n, h⟩) (iblk m c 1 ⟨n, h⟩)
  | n, h => by
    by_cases h0 : n % 7 = 0
    · rw [outsAt0_A m c ⟨n, h⟩ h0]
      frame_out
    · rw [outsAt0_B m c ⟨n, h⟩ h0]
      have hp : n - 1 < cfg0.N := Nat.lt_of_le_of_lt (Nat.sub_le _ _) h
      have ih := scratch c (n - 1) hp
      rw [rows_eq m c ⟨n, h⟩ ⟨n - 1, hp⟩ (by show n / 7 = (n - 1) / 7; omega), gain_eq m c ⟨n, h⟩ ⟨n - 1, hp⟩]
      exact ih
  termination_by n => n
  decreasing_by omega

/-- The columns of a normed block's product with a block of the weight are the product's at the row and the column from
    which the blocks are read. -/
theorem product (x : FVec Ideal ⟨2, ![1024, 1024]⟩ .f32) (g : FVec Ideal ⟨1, ![1024]⟩ .f32) (w : FVec Ideal ⟨2, ![1024, 9808]⟩ .f32)
    (X : FVec Ideal S1024x1024 .f32) (G : FVec Ideal S1x1024 .f32) (B : FVec Ideal S1024x1024 .bf16)
    (r : Fin 1024) (r' : Fin 1024) (j : Fin 1024) (j' : Fin 9808)
    (hX : ∀ k, X (ix2 r k) = x (ix2 r' k)) (hG : ∀ k, G (ix2 (0 : Fin 1) k) = g (ix1 k)) (hB : ∀ k, B (ix2 k j) = w (ix2 k j')) :
    k0_pay2 (F := Ideal) (k0_pay1 (F := Ideal) X G) B (ix2 r j) = PROD x g w (ix2 r' j') := by
  pointwise [k0_pay2, k0_pay1, PROD, hX, hG, hB, Cert.Reference7Ideal.Read.val_main_v0, Cert.Reference7Ideal.Read.val_main_cst, Cert.Reference7Ideal.Read.val_main_v1, Cert.Reference7Ideal.Read.val_main_v2, Cert.Reference7Ideal.Read.val_main_cst_0, Cert.Reference7Ideal.Read.val_main_v3, Cert.Reference7Ideal.Read.val_main_v4, Cert.Reference7Ideal.Read.val_main_cst_1, Cert.Reference7Ideal.Read.val_main_v5, Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_v12, Cert.Reference7Ideal.Read.val_main_v13]

/-- Against a block's column of zeros it is zero. -/
theorem product_zero (X : FVec Ideal S1024x1024 .bf16) (B : FVec Ideal S1024x1024 .bf16) (r : Fin 1024) (j : Fin 1024)
    (hB : ∀ k, B (ix2 k j) = (0 : EReal)) : k0_pay2 (F := Ideal) X B (ix2 r j) = (0 : EReal) := by
  pointwise [k0_pay2, hB]
  simp only [mul_zero, Finset.sum_const_zero]

/-- What grid point `t` leaves in the result's block is the reference's rows and columns there. -/
theorem point (c : Dev nD) (t : Fin cfg0.N) (y : S1024x1024.Idx) :
    (outsAt0 m c t.val t.isLt).1 y = REF (m ((c : Thread nD τ).loc main_arg0)) (m ((c : Thread nD τ).loc main_arg1))
      (m ((c : Thread nD τ).loc main_arg2)) (((cfg0.win 3).blk t).view.emb y) := by
  have key : (outsAt0 m c t.val t.isLt).1 y
      = k0_pay2 (F := Ideal) (k0_pay1 (F := Ideal) (iblk m c 0 t) (iblk m c 1 t)) (iblk m c 2 t) y := by
    by_cases h0 : t.val % 7 = 0
    · rw [outsAt0_A m c t h0]
      frame_out
    · rw [outsAt0_B m c t h0]
      have hp : t.val - 1 < cfg0.N := Nat.lt_of_le_of_lt (Nat.sub_le _ _) t.isLt
      have ih := scratch m c (t.val - 1) hp
      rw [rows_eq m c t ⟨t.val - 1, hp⟩ (by show t.val / 7 = (t.val - 1) / 7; omega), gain_eq m c t ⟨t.val - 1, hp⟩,
        ← ih]
      frame_out
      exact congrArg (fun s => k0_pay2 (F := Ideal) s (iblk m c 2 t) y) ((Memref.isWhole_whole _).read_unread _)
  rw [key]
  have hw : ∀ (k j : Fin 1024), iblk m c 2 t (ix2 k j)
      = V m c main_v6 (ix2 k (⟨t.val % 7 * 1024 + j.val, by omega⟩ : Fin 7168)) := fun k j => by
    blk_ext [iblk, idx t]
  idx_vars y
  have ht : t.val < 7 := lt_of_lt_of_eq t.isLt (show cfg0.N = 7 from N_0)
  have hx : ∀ k, iblk m c 0 t (ix2 y0 k) = m ((c : Thread nD τ).loc main_arg0) (ix2 (⟨t.val / 7 * 1024 + y0.val, by omega⟩ : Fin 1024) k) :=
    fun k => by blk_ext [iblk, V, idx t]
  have hg : ∀ k, iblk m c 1 t (ix2 (0 : Fin 1) k) = m ((c : Thread nD τ).loc main_arg1) (ix1 k) := fun k => by
    refine Eq.trans (b := V m c main_v7 (ix2 (0 : Fin 1) k)) ?_ ?_
    · blk_ext [iblk, idx t]
    · entry_read
      pointwise
  have he : ((View.whole main_v8).slice ((win0 3).rect t)).emb (ix2 y0 y1)
      = ix2 (⟨t.val / 7 * 1024 + y0.val, by omega⟩ : Fin 1024) (⟨t.val % 7 * 1024 + y1.val, by omega⟩ : Fin 7168) := by
    blk_ext [idx t]
  refine Eq.trans ?_ (congrArg (REF _ _ _) he.symm)
  by_cases h : t.val % 7 * 1024 + y1.val < 6736
  · refine Eq.trans (product _ _ _ _ _ _ _ _ _ _ hx hg fun k => ?_) (ref_at _ _ _ _ _ h).symm
    exact (hw k y1).trans (w_at m c k _ h)
  · refine Eq.trans (product_zero _ _ _ _ fun k => ?_) (ref_zero _ _ _ _ _ h).symm
    exact (hw k y1).trans (w_zero m c k _ h)

/-- The result array is the reference's result of the three arguments. -/
theorem final (c : Dev nD) : (dats m 0 c).arrAt 3 (cfgs 0).N
    = REF (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  exact point m c t y

end Cert.Kernel7Ideal.Proj

end
-- ==== Proof.QkvCover.lean ====
/- Eight stores of every eighth row cover a block of 4096 rows. -/
module

public import Idealize.ShloMosaic.Lib.Pipeline.FrameBody
public import Idealize.ShloMosaic.Lib.Ring

@[expose] public section

namespace Qkv

open Idealize.ShloMosaic

/-- A block's rectangle by its numbers: on each axis where it begins, how many coordinates it takes, and how far apart. -/
abbrev numbers (r : Rect (⟨3, ![1, 4096, 128]⟩ : Shape)) : List ℕ :=
  [r.off 0, r.off 1, r.off 2, r.size 0, r.size 1, r.size 2, r.stride 0, r.stride 1, r.stride 2]

/-- Where for each head `h` below eight some piece is the rows `h`, `h + 8`, …, the pieces cover the block. -/
theorem cover_strided {Val : EltTy → Type} (L : List (View.Piece Val (⟨3, ![1, 4096, 128]⟩ : Shape) .f32))
    (hL : ((List.range 8).all fun h => decide ([0, h, 0, 1, 512, 128, 1, 8, 1] ∈ L.map fun p => numbers p.1)) = true)
    (y : (⟨3, ![1, 4096, 128]⟩ : Shape).Idx) : ∃ p ∈ L, y ∈ p.1.set := by
  have h1 : (y 1).val < 4096 := (y 1).isLt
  have h0 : (y 0).val < 1 := (y 0).isLt
  have h2 : (y 2).val < 128 := (y 2).isLt
  have hm := List.all_eq_true.mp hL ((y 1).val % 8) (List.mem_range.mpr (Nat.mod_lt _ (by decide)))
  obtain ⟨p, hp, hn⟩ := List.mem_map.mp (of_decide_eq_true hm)
  simp only [numbers, List.cons.injEq] at hn
  obtain ⟨o0, o1, o2, s0, s1, s2, t0, t1, t2, -⟩ := hn
  refine ⟨p, hp, p.1.mem_set.mpr fun a => ?_⟩
  match a with
  | ⟨0, _⟩ => exact ⟨(y 0).val, by rw [show p.1.size ⟨0, _⟩ = 1 from s0]; exact h0,
      by rw [show p.1.off ⟨0, _⟩ = 0 from o0, show p.1.stride ⟨0, _⟩ = 1 from t0]; show (y 0).val = _; omega⟩
  | ⟨1, _⟩ => exact ⟨(y 1).val / 8, by rw [show p.1.size ⟨1, _⟩ = 512 from s1]; omega,
      by rw [show p.1.off ⟨1, _⟩ = (y 1).val % 8 from o1, show p.1.stride ⟨1, _⟩ = 8 from t1]; show (y 1).val = _; omega⟩
  | ⟨2, _⟩ => exact ⟨(y 2).val, by rw [show p.1.size ⟨2, _⟩ = 128 from s2]; exact h2,
      by rw [show p.1.off ⟨2, _⟩ = 0 from o2, show p.1.stride ⟨2, _⟩ = 1 from t2]; show (y 2).val = _; omega⟩

end Qkv

end
-- ==== Proof.QkvIdealRun.lean ====
/- The launch of the query, key and value call over the idealised values: the body's run on any staging memrefs, what each output's buffer holds
   after a grid point, and the run of the whole program. The head-by-head caches are stored through rectangles of stride
   eight, so their cover is `Qkv.cover_strided`. -/
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.QkvCover
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the core finds in each of its buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the region, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of window `w` at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run of the pipeline whose arrays are those found leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev VO0_5 : View sig .tc .vmem S1x4096x128 .f32 := (Memref.whole cc0_stg5_0 : Memref sig .tc .vmem S1x4096x128 .f32).view
abbrev VO0_6 : View sig .tc .vmem S1x4096x128 .f32 := (Memref.whole cc0_stg6_0 : Memref sig .tc .vmem S1x4096x128 .f32).view
abbrev VO0_7 : View sig .tc .vmem S1x512x1024 .bf16 := (Memref.whole cc0_stg7_0 : Memref sig .tc .vmem S1x512x1024 .bf16).view
abbrev VO0_8 : View sig .tc .vmem S1x1024x512 .bf16 := (Memref.whole cc0_stg8_0 : Memref sig .tc .vmem S1x1024x512 .bf16).view
abbrev VO0_9 : View sig .tc .vmem S1x1x1152x512 .bf16 := (Memref.whole cc0_stg9_0 : Memref sig .tc .vmem S1x1x1152x512 .bf16).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1152x512 .bf16 := win0_9.stage (cfg0.slots t 9)
abbrev hs0_9 (t : Fin cfg0.N) : (ms0_9 t).IsWhole := hstage0_9 ((cfg0.slots t 9).cast nbuf0_9)

set_option maxHeartbeats 1000000 in
/-- The body's run: the pieces that its stores leave in each output's buffer, with the proof that it ends with them. -/
noncomputable def kernelRun0_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) :
    Σ' (L5 : List (View.Piece (Elt F) S1x4096x128 .f32)), Σ' (L6 : List (View.Piece (Elt F) S1x4096x128 .f32)), Σ' (L7 : List (View.Piece (Elt F) S1x512x1024 .bf16)), Σ' (L8 : List (View.Piece (Elt F) S1x1024x512 .bf16)), { L9 : List (View.Piece (Elt F) S1x1x1152x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_qkv_proj_norm i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_qkv_proj_norm_eq_skeleton]; unfold cc0_qkv_proj_norm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexists _; iexact H9

/-- The pieces of each output cover its block. -/
theorem cover0_A_5 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) (y : S1x4096x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4).1, y ∈ pc.1.set :=
  Qkv.cover_strided (kernelRun0_A c i arg2 harg2 arg3 harg3 arg4 harg4 arg5 harg5 arg6 harg6 arg7 harg7 arg8 harg8 arg9 harg9 arg10 harg10 arg11 harg11 x0 x1 x2 x3 x4).1 (by sl_kernel_rfl) y

/-- What the run leaves in each output's buffer. -/
def out0_A_5 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) : Vec F S1x4096x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 x0 x1 x2 x3 x4).1)

theorem cover0_A_6 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) (y : S1x4096x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4).2.1, y ∈ pc.1.set :=
  Qkv.cover_strided (kernelRun0_A c i arg2 harg2 arg3 harg3 arg4 harg4 arg5 harg5 arg6 harg6 arg7 harg7 arg8 harg8 arg9 harg9 arg10 harg10 arg11 harg11 x0 x1 x2 x3 x4).2.1 (by sl_kernel_rfl) y

def out0_A_6 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) : Vec F S1x4096x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 x0 x1 x2 x3 x4).2.1)

theorem cover0_A_7 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4).2.2.1 S1x512x128.size (by sl_kernel_rfl) y

def out0_A_7 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) : Vec F S1x512x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4).2.2.1)

theorem cover0_A_8 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4).2.2.2.1 S1x128x512.size (by sl_kernel_rfl) y

def out0_A_8 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) : Vec F S1x1024x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4).2.2.2.1)

theorem cover0_A_9 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) (y : S1x1x1152x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 x0 x1 x2 x3 x4).2.2.2.2.1 ![1, 1, 16, 512] (by sl_kernel_rfl) y

def out0_A_9 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1x1152x512 .bf16) (harg11 : arg11.IsWhole)
    (x0 : Vec F S1x512x1024 .f32) (x1 : Vec F S1x1024 .f32) (x2 : Vec F S1024x3072 .bf16) (x3 : Vec F S1x128 .f32) (x4 : Vec F S1x128 .f32) : Vec F S1x1x1152x512 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4).2.2.2.2.1)

/-- What the five outputs' buffers hold after grid point `t`. -/
def outsAt0 (c : Dev nD) (t : Fin cfg0.N) : Vec F S1x4096x128 .f32 × Vec F S1x4096x128 .f32 × Vec F S1x512x1024 .bf16 × Vec F S1x1024x512 .bf16 × Vec F S1x1x1152x512 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t))

/-- The proof data: the arrays as found, each input's buffer at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2.1
    | ⟨9, _⟩ => (outsAt0 m c t).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2.1 := by dsimp only [dats]
theorem after0_9 (c : Dev nD) (t : Fin cfg0.N) : (dats m 0 c).after 9 t = (outsAt0 m c t).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_A_5 out0_A_6 out0_A_7 out0_A_8 out0_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program, with every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the program: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Gen

end
-- ==== Proof.QkvHead.lean ====
/- What the query, key and value call computes for one row block: the normalised rows, a block of columns of their
   product with the weight, one head of it normalised — each as the reference's array at that place. -/
module

public import proofs.«01_k».proof.Proof.Gen.Kernel5Ideal.Skeleton
public import proofs.«01_k».proof.Proof.Gen.Reference5Ideal.Read
public import Idealize.ShloMosaic.Lib.Pointwise
public import Idealize.ShloMosaic.Lib.Claim

@[expose] public section

set_option maxRecDepth 16384

noncomputable section

namespace Cert.Kernel5Ideal.Qkv

open Cert.Kernel5Ideal Cert.Kernel5Ideal.Gen Cert.Reference5Ideal.Read Idealize.ShloMosaic Idealize.ShloMosaic.TcCoe Idealize.SL.Sem

variable {x : FVec Ideal ⟨3, ![2, 8192, 1024]⟩ .f32} {gx : FVec Ideal ⟨1, ![1024]⟩ .f32} {w : FVec Ideal ⟨2, ![1024, 9808]⟩ .f32}
  {gq gk : FVec Ideal ⟨1, ![128]⟩ .f32} {b : Fin 2} {tok : Fin 512 → Fin 8192}

/-- The normalised rows. -/
theorem rows_at {v0 : FVec Ideal S1x512x1024 .f32} {v12 : FVec Ideal S1x1024 .f32}
    (h0 : ∀ r d, v0 (ix3 (0 : Fin 1) r d) = x (ix3 b (tok r) d)) (h12 : ∀ d, v12 (ix2 (0 : Fin 1) d) = gx (ix1 d))
    (r : Fin 512) (d : Fin 1024) :
    k0_pay4 (F := Ideal) v0 v12 (ix2 r d) = val_main_v12 (F := Ideal) x gx (ix3 b (tok r) d) := by
  pointwise [k0_pay4, h0, h12, val_main_v0, val_main_cst, val_main_v1, val_main_v2, val_main_cst_0, val_main_v3, val_main_v4, val_main_cst_1, val_main_v5, val_main_v6, val_main_v7, val_main_v8, val_main_v9, val_main_v10, val_main_v11, val_main_v12]

/-- A block of columns of the product of the normalised rows and the weight. -/
theorem cols_at {xn : FVec Ideal S512x1024 .bf16} {wb : FVec Ideal S1024x256 .bf16} {C : ℕ} (hC : C + 256 ≤ 3072)
    (hx : ∀ r d, xn (ix2 r d) = val_main_v12 (F := Ideal) x gx (ix3 b (tok r) d))
    (hw : ∀ (d : Fin 1024) (j : Fin 256), wb (ix2 d j) = val_main_v13 (F := Ideal) w (ix2 d ⟨C + j.val, by omega⟩))
    (r : Fin 512) (j : Fin 256) :
    k0_pay28 (F := Ideal) xn wb (ix2 r j) = val_main_v14 (F := Ideal) x gx w (ix3 b (tok r) ⟨C + j.val, by omega⟩) := by
  pointwise [k0_pay28, hx, hw, val_main_v14]

/-- One head's columns of a block, as the reference's queries. -/
theorem q_cols {P : FVec Ideal S512x256 .f32} {C off : ℕ} {hC : C + 256 ≤ 3072} (hs : S512x256.Slices ![0, off] S512x128)
    (hP : ∀ (r : Fin 512) (j : Fin 256), P (ix2 r j) = val_main_v14 (F := Ideal) x gx w (ix3 b (tok r) ⟨C + j.val, by omega⟩))
    (h : Fin 8) (ho : off + 128 ≤ 256) (hh : 128 * h.val = C + off) (r : Fin 512) (e : Fin 128) :
    extractStridedSlice S512x128 ![0, off] P hs (ix2 r e) = val_main_v18 (F := Ideal) x gx w (ix4 b (tok r) h e) := by
  pointwise [hP, val_main_v18, val_main_v15]
  have hi : C + (off + e.val) = h.val * 128 + e.val := by omega
  simp only [hi]

/-- One head's columns of a block, as the reference's keys. -/
theorem k_cols {P : FVec Ideal S512x256 .f32} {C off : ℕ} {hC : C + 256 ≤ 3072} (hs : S512x256.Slices ![0, off] S512x128)
    (hP : ∀ (r : Fin 512) (j : Fin 256), P (ix2 r j) = val_main_v14 (F := Ideal) x gx w (ix3 b (tok r) ⟨C + j.val, by omega⟩))
    (h : Fin 8) (ho : off + 128 ≤ 256) (hh : 1024 + 128 * h.val = C + off) (r : Fin 512) (e : Fin 128) :
    extractStridedSlice S512x128 ![0, off] P hs (ix2 r e) = val_main_v38 (F := Ideal) x gx w (ix4 b (tok r) h e) := by
  pointwise [hP, val_main_v38, val_main_v16]
  have hi : C + (off + e.val) = 1024 + (h.val * 128 + e.val) := by omega
  simp only [hi]

/-- A head's normalised keys. -/
theorem k_norm {s : FVec Ideal S512x128 .f32} {g : FVec Ideal S1x128 .f32} {h : Fin 8}
    (hs : ∀ r e, s (ix2 r e) = val_main_v38 (F := Ideal) x gx w (ix4 b (tok r) h e)) (hg : ∀ e, g (ix2 (0 : Fin 1) e) = gk (ix1 e))
    (r : Fin 512) (e : Fin 128) :
    k0_pay22 (F := Ideal) s g (mulf s s) (ix2 r e) = val_main_v51 (F := Ideal) x gx w gk (ix4 b (tok r) h e) := by
  pointwise [k0_pay22, hs, hg, val_main_v39, val_main_cst_7, val_main_v40, val_main_v41, val_main_cst_8, val_main_v42, val_main_v43, val_main_cst_9, val_main_v44, val_main_v45, val_main_v46, val_main_v47, val_main_v48, val_main_v49, val_main_v50, val_main_v51]

/-- A head's normalised queries. -/
theorem q_norm {s : FVec Ideal S512x128 .f32} {g : FVec Ideal S1x128 .f32} {h : Fin 8}
    (hs : ∀ r e, s (ix2 r e) = val_main_v18 (F := Ideal) x gx w (ix4 b (tok r) h e)) (hg : ∀ e, g (ix2 (0 : Fin 1) e) = gq (ix1 e))
    (r : Fin 512) (e : Fin 128) :
    k0_pay22 (F := Ideal) s g (mulf s s) (ix2 r e) = val_main_v31 (F := Ideal) x gx w gq (ix4 b (tok r) h e) := by
  pointwise [k0_pay22, hs, hg, val_main_v19, val_main_cst_2, val_main_v20, val_main_v21, val_main_cst_3, val_main_v22, val_main_v23, val_main_cst_4, val_main_v24, val_main_v25, val_main_v26, val_main_v27, val_main_v28, val_main_v29, val_main_v30, val_main_v31]

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The kernel's one factor is the reference's two divisions. -/
theorem scale_eq (a : EReal) : a * (Named.named (F := Ideal) κ "scale" (φ := .f32) 0x3E0293EE#32 : EReal)
    = Ideal.div (Ideal.div a (Ideal.sqrt (Ideal.ofBits .f32 0x43000000#32))) (Ideal.log (Ideal.ofBits .f32 0x40000000#32)) := by
  have hs : Real.sqrt 128 ≠ 0 := Real.sqrt_ne_zero'.mpr (by norm_num)
  have hl : Real.log 2 ≠ 0 := (Real.log_pos (by norm_num)).ne'
  have hn : (Named.named (F := Ideal) κ "scale" (φ := .f32) 0x3E0293EE#32 : EReal)
      = (((Real.log 2)⁻¹ * (Real.sqrt 128)⁻¹ : ℝ) : EReal) := rfl
  rw [hn, ofBits_128, ofBits_2, Ideal.sqrt_coe, Ideal.log_coe, if_neg (by norm_num), if_neg (by norm_num),
    Ideal.div_coe hs, Ideal.div_coe hl, mul_assoc, ← EReal.coe_mul, one_div, one_div, mul_comm (Real.log 2)⁻¹]

/-- A head's keys, laid out a token's heads together. -/
theorem k32_piece {n : FVec Ideal S512x128 .f32} {h : Fin 8}
    (hn : ∀ r e, n (ix2 r e) = val_main_v51 (F := Ideal) x gx w gk (ix4 b (tok r) h e)) (hc : S512x128.ShapeCasts S1x512x128)
    (r : Fin 512) (e : Fin 128) :
    shapeCast S1x512x128 n hc (ix3 (0 : Fin 1) r e)
      = val_main_v52 (F := Ideal) x gx w gk (ix3 b ⟨8 * (tok r).val + h.val, by omega⟩ e) := by
  pointwise [hn, val_main_v52]

/-- A head's values, laid out likewise. -/
theorem v32_piece {P : FVec Ideal S512x256 .f32} {C off : ℕ} {hC : C + 256 ≤ 3072} (hs : S512x256.Slices ![0, off] S512x128)
    (hP : ∀ (r : Fin 512) (j : Fin 256), P (ix2 r j) = val_main_v14 (F := Ideal) x gx w (ix3 b (tok r) ⟨C + j.val, by omega⟩))
    (h : Fin 8) (ho : off + 128 ≤ 256) (hh : 2048 + 128 * h.val = C + off) (hc : S512x128.ShapeCasts S1x512x128) (r : Fin 512) (e : Fin 128) :
    shapeCast S1x512x128 (extractStridedSlice S512x128 ![0, off] P hs) hc (ix3 (0 : Fin 1) r e)
      = val_main_v53 (F := Ideal) x gx w (ix3 b ⟨8 * (tok r).val + h.val, by omega⟩ e) := by
  pointwise [hP, val_main_v53, val_main_v17]
  have hi : C + (off + e.val) = 2048 + ((8 * (tok r).val + h.val) % 8 * 128 + e.val) := by omega
  simp only [hi]

/-- A head's keys in the narrow format, the heads side by side. -/
theorem kb_piece {n : FVec Ideal S512x128 .f32} {h : Fin 8}
    (hn : ∀ r e, n (ix2 r e) = val_main_v51 (F := Ideal) x gx w gk (ix4 b (tok r) h e)) (hc : S512x128.ShapeCasts S1x512x128)
    (r : Fin 512) (e : Fin 128) :
    shapeCast S1x512x128 (truncf .bf16 n bitsLt_bf16_f32) hc (ix3 (0 : Fin 1) r e)
      = val_main_v55 (F := Ideal) x gx w gk (ix3 b (tok r) ⟨128 * h.val + e.val, by omega⟩) := by
  pointwise [hn, val_main_v54, val_main_v55]

/-- A head's scaled queries, transposed, the heads one above the other. -/
theorem qt_piece {n : FVec Ideal S512x128 .f32} {h : Fin 8}
    (hn : ∀ r e, n (ix2 r e) = val_main_v31 (F := Ideal) x gx w gq (ix4 b (tok r) h e)) (e : Fin 128) (r : Fin 512) :
    shapeCast S1x128x512 (truncf .bf16 (transpose S128x512 [1, 0] (mulf n (broadcast S512x128 (Named.named (F := Ideal) κ "scale" 0x3E0293EE#32 : Ideal .f32)))
      transposes_S512x128_p1_0_S128x512) bitsLt_bf16_f32) shapeCasts_S128x512_S1x128x512 (ix3 (0 : Fin 1) e r)
      = val_main_v58 (F := Ideal) x gx w gq (ix3 b ⟨128 * h.val + e.val, by omega⟩ (tok r)) := by
  pointwise [hn, val_main_cst_5, val_main_v32, val_main_v33, val_main_v34, val_main_cst_6, val_main_v35, val_main_v36, val_main_v37, val_main_v56, val_main_v57, val_main_v58]
  exact scale_eq _

end Cert.Kernel5Ideal.Qkv

end
-- ==== Proof.QkvValue.lean ====
/- The query, key and value call's four results, each as the reference's array: what a head leaves in its part of a
   block, and the blocks together. -/
module

public import proofs.«01_k».proof.Proof.QkvIdealRun
public import proofs.«01_k».proof.Proof.QkvHead
public import Idealize.ShloMosaic.Lib.Routing.OpsOne
public import Idealize.ShloMosaic.Lib.Pipeline.ValueKit
public import Idealize.ShloMosaic.Lib.Pipeline.ReadBack

@[expose] public section

set_option maxRecDepth 16384

noncomputable section

namespace Cert.Kernel5Ideal.Qkv

open Cert.Kernel5Ideal Cert.Kernel5Ideal.Gen Cert.Reference5Ideal.Read Idealize.ShloMosaic Idealize.ShloMosaic.TcCoe Idealize.SL.Sem

/-- Where each window's block lies at each grid point. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![t.val / 16, t.val % 16, 0]
    ∧ win0_6.index t = ![t.val / 16, t.val % 16, 0] ∧ win0_7.index t = ![t.val / 16, t.val % 16, 0]
    ∧ win0_8.index t = ![t.val / 16, 0, t.val % 16] :=
  (by decide +kernel : ∀ t : Fin grid0.N, _)

theorem points (t : Fin cfg0.N) : t.val < 32 := t.isLt

/-- The stream a grid point works on, and the tokens of its row block. -/
abbrev st (t : Fin cfg0.N) : Fin 2 := ⟨t.val / 16, by have := points t; omega⟩
abbrev tok (t : Fin cfg0.N) (r : Fin 512) : Fin 8192 := ⟨512 * (t.val % 16) + r.val, by omega⟩

variable (m : (ℓ : Loc nD τ sig) → Buf (Elt Ideal) ℓ)

/-- The five arguments. -/
abbrev X (c : Dev nD) : FVec Ideal ⟨3, ![2, 8192, 1024]⟩ .f32 := m ((c : Thread nD τ).loc main_arg0)
abbrev GX (c : Dev nD) : FVec Ideal ⟨1, ![1024]⟩ .f32 := m ((c : Thread nD τ).loc main_arg1)
abbrev WW (c : Dev nD) : FVec Ideal ⟨2, ![1024, 9808]⟩ .f32 := m ((c : Thread nD τ).loc main_arg2)
abbrev GQ (c : Dev nD) : FVec Ideal ⟨1, ![128]⟩ .f32 := m ((c : Thread nD τ).loc main_arg3)
abbrev GK (c : Dev nD) : FVec Ideal ⟨1, ![128]⟩ .f32 := m ((c : Thread nD τ).loc main_arg4)

variable (c : Dev nD) (t : Fin cfg0.N)

theorem x_at (r : Fin 512) (d : Fin 1024) : iblk m c 0 t (ix3 (0 : Fin 1) r d) = X m c (ix3 (st t) (tok t r) d) := by
  blk_ext [iblk, V, idx t]

theorem gx_at (d : Fin 1024) : iblk m c 1 t (ix2 (0 : Fin 1) d) = GX m c (ix1 d) := by
  refine Eq.trans (b := V m c main_v2 (ix2 (0 : Fin 1) d)) ?_ ?_
  · blk_ext [iblk, idx t]
  · entry_read
    pointwise

theorem gq_at (e : Fin 128) : iblk m c 3 t (ix2 (0 : Fin 1) e) = GQ m c (ix1 e) := by
  refine Eq.trans (b := V m c main_v3 (ix2 (0 : Fin 1) e)) ?_ ?_
  · blk_ext [iblk, idx t]
  · entry_read
    pointwise

theorem gk_at (e : Fin 128) : iblk m c 4 t (ix2 (0 : Fin 1) e) = GK m c (ix1 e) := by
  refine Eq.trans (b := V m c main_v4 (ix2 (0 : Fin 1) e)) ?_ ?_
  · blk_ext [iblk, idx t]
  · entry_read
    pointwise

theorem w_at {C : ℕ} (hC : C + 256 ≤ 3072) (hb : ∀ a, (![0, C] : Fin 2 → ℕ) a + (![1024, 256] : Fin 2 → ℕ) a ≤ S1024x3072.size a)
    (d : Fin 1024) (j : Fin 256) :
    View.ld (iblk m c 2 t) (Rect.unit ![0, C] ![1024, 256] hb) (ix2 d j)
      = val_main_v13 (F := Ideal) (WW m c) (ix2 d ⟨C + j.val, by omega⟩) := by
  refine (View.ld_unit_apply_of _ _ _ _ _ (ix2 d (⟨C + j.val, by omega⟩ : Fin 3072)) ?_).trans ?_
  · intro a
    fin_cases a <;> simp
  refine Eq.trans (b := V m c main_v1 (ix2 d (⟨C + j.val, by omega⟩ : Fin 3072))) ?_ ?_
  · blk_ext [iblk, idx t]
  · entry_read
    pointwise [val_main_v13]

/-- The normalised rows of a grid point's block. -/
abbrev xn : FVec Ideal S512x1024 .bf16 := k0_pay4 (F := Ideal) (iblk m c 0 t) (iblk m c 1 t)

/-- A block of columns of their product with the weight. -/
abbrev P (C : ℕ) (hb : ∀ a, (![0, C] : Fin 2 → ℕ) a + (![1024, 256] : Fin 2 → ℕ) a ≤ S1024x3072.size a) : FVec Ideal S512x256 .f32 :=
  k0_pay28 (F := Ideal) (xn m c t) (View.ld (iblk m c 2 t) (Rect.unit ![0, C] ![1024, 256] hb))

/-- The block is the reference's. -/
theorem P_at {C : ℕ} (hC : C + 256 ≤ 3072) (hb : ∀ a, (![0, C] : Fin 2 → ℕ) a + (![1024, 256] : Fin 2 → ℕ) a ≤ S1024x3072.size a)
    (r : Fin 512) (j : Fin 256) :
    P m c t C hb (ix2 r j)
      = val_main_v14 (F := Ideal) (X m c) (GX m c) (WW m c) (ix3 (st t) (tok t r) ⟨C + j.val, by omega⟩) :=
  cols_at hC (rows_at (x_at m c t) (gx_at m c t)) (w_at m c t hC hb) r j

/-- A head's keys, normalised and scaled by the gain. -/
theorem keys_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 1024 + 128 * h.val = C + off) (r : Fin 512) (e : Fin 128) :
    k0_pay22 (F := Ideal) (extractStridedSlice S512x128 ![0, off] (P m c t C hb) hs) (k0_pay20 (F := Ideal) (iblk m c 4 t))
        (mulf (extractStridedSlice S512x128 ![0, off] (P m c t C hb) hs) (extractStridedSlice S512x128 ![0, off] (P m c t C hb) hs)) (ix2 r e)
      = val_main_v51 (F := Ideal) (X m c) (GX m c) (WW m c) (GK m c) (ix4 (st t) (tok t r) h e) :=
  k_norm (k_cols (hC := hC) hs (P_at m c t hC hb) h ho hh) (fun e => by pointwise [k0_pay20, gk_at m c t]) r e

/-- A head's queries, likewise. -/
theorem queries_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 128 * h.val = C + off) (r : Fin 512) (e : Fin 128) :
    k0_pay22 (F := Ideal) (extractStridedSlice S512x128 ![0, off] (P m c t C hb) hs) (k0_pay20 (F := Ideal) (iblk m c 3 t))
        (mulf (extractStridedSlice S512x128 ![0, off] (P m c t C hb) hs) (extractStridedSlice S512x128 ![0, off] (P m c t C hb) hs)) (ix2 r e)
      = val_main_v31 (F := Ideal) (X m c) (GX m c) (WW m c) (GQ m c) (ix4 (st t) (tok t r) h e) :=
  q_norm (q_cols (hC := hC) hs (P_at m c t hC hb) h ho hh) (fun e => by pointwise [k0_pay20, gq_at m c t]) r e

/-- Eight stores that are blocks of `G` and together cover the array leave `G`. -/
theorem canon_heads {s : Shape} {e : EltTy} (G : s.Idx → Elt Ideal e) (p7 p6 p5 p4 p3 p2 p1 p0 : View.Piece (Elt Ideal) s e)
    (h7 : ∀ x, p7.2 x = G (p7.1.emb x)) (h6 : ∀ x, p6.2 x = G (p6.1.emb x)) (h5 : ∀ x, p5.2 x = G (p5.1.emb x)) (h4 : ∀ x, p4.2 x = G (p4.1.emb x))
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, ∃ q ∈ [p7, p6, p5, p4, p3, p2, p1, p0], y ∈ q.1.set) (y : s.Idx) : View.canon [p7, p6, p5, p4, p3, p2, p1, p0] y = G y :=
  View.canon_append_of_piecesOf G [] [p7, p6, p5, p4, p3, p2, p1, p0] ⟨h7, h6, h5, h4, h3, h2, h1, h0, trivial⟩ y (hc y)

/-- A block of the keys' rows in the reference's result, of the values', of the narrow keys', of the transposed queries'. -/
abbrev G5 (y : S1x4096x128.Idx) : EReal := val_main_v52 (F := Ideal) (X m c) (GX m c) (WW m c) (GK m c)
  (ix3 (st t) ⟨4096 * (t.val % 16) + (y 1).val, by have : (y 1).val < 4096 := (y 1).isLt; omega⟩ (y 2))
abbrev G6 (y : S1x4096x128.Idx) : EReal := val_main_v53 (F := Ideal) (X m c) (GX m c) (WW m c)
  (ix3 (st t) ⟨4096 * (t.val % 16) + (y 1).val, by have : (y 1).val < 4096 := (y 1).isLt; omega⟩ (y 2))
abbrev G7 (y : S1x512x1024.Idx) : EReal := val_main_v55 (F := Ideal) (X m c) (GX m c) (WW m c) (GK m c) (ix3 (st t) (tok t (y 1)) (y 2))
abbrev G8 (y : S1x1024x512.Idx) : EReal := val_main_v58 (F := Ideal) (X m c) (GX m c) (WW m c) (GQ m c) (ix3 (st t) (y 1) (tok t (y 2)))

/-- A head's rows in a block that holds a token's heads together. -/
abbrev strided (h : Fin 8) (hi : ∀ a, (![1, 512, 128] : Fin 3 → ℕ) a = 0 ∨ (![0, h.val, 0] : Fin 3 → ℕ) a + (![1, 8, 1] : Fin 3 → ℕ) a * ((![1, 512, 128] : Fin 3 → ℕ) a - 1) < S1x4096x128.size a)
    (hp : ∀ a, 0 < (![1, 8, 1] : Fin 3 → ℕ) a) : Rect S1x4096x128 :=
  { off := ![0, h.val, 0], size := ![1, 512, 128], stride := ![1, 8, 1], inb := hi, stride_pos := hp }

/-- Where a head's `r`-th row lies in a block that holds a token's heads together. -/
theorem emb_strided (h : Fin 8) (hi hp) (r : Fin 512) (e : Fin 128) :
    (strided h hi hp).emb (ix3 (0 : Fin 1) r e)
      = ix3 (0 : Fin 1) (⟨8 * r.val + h.val, by omega⟩ : Fin 4096) e := by
  funext a
  refine Fin.ext ?_
  rw [Rect.emb_apply]
  fin_cases a
  · simp
  · simp; omega
  · simp

theorem emb_side (h : Fin 8) (hi) (r : Fin 512) (e : Fin 128) :
    (Rect.unit (s := S1x512x1024) ![0, 0, 128 * h.val] ![1, 512, 128] hi).emb (ix3 (0 : Fin 1) r e)
      = ix3 (0 : Fin 1) r (⟨128 * h.val + e.val, by omega⟩ : Fin 1024) := by
  funext a
  refine Fin.ext ?_
  rw [Rect.emb_apply]
  fin_cases a <;> simp

theorem emb_above (h : Fin 8) (hi) (e : Fin 128) (r : Fin 512) :
    (Rect.unit (s := S1x1024x512) ![0, 128 * h.val, 0] ![1, 128, 512] hi).emb (ix3 (0 : Fin 1) e r)
      = ix3 (0 : Fin 1) (⟨128 * h.val + e.val, by omega⟩ : Fin 1024) r := by
  funext a
  refine Fin.ext ?_
  rw [Rect.emb_apply]
  fin_cases a <;> simp

/-- What a head stores of its keys is its part of the keys' rows. -/
theorem k32_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 1024 + 128 * h.val = C + off) (hi hp) (r : Fin 512) (e : Fin 128) :
    shapeCast S1x512x128 (k0_pay22 (F := Ideal) (extractStridedSlice S512x128 ![0, off] (P m c t C hb) hs) (k0_pay20 (F := Ideal) (iblk m c 4 t)) (mulf (extractStridedSlice S512x128 ![0, off] (P m c t C hb) hs) (extractStridedSlice S512x128 ![0, off] (P m c t C hb) hs)))
        shapeCasts_S512x128_S1x512x128 (ix3 (0 : Fin 1) r e)
      = G5 m c t ((strided h hi hp).emb (ix3 (0 : Fin 1) r e)) := by
  refine (k32_piece (keys_at m c t hC hb hs h ho hh) _ r e).trans ?_
  rw [emb_strided]
  exact congrArg (fun i => val_main_v52 (F := Ideal) (X m c) (GX m c) (WW m c) (GK m c) (ix3 (st t) i e)) (Fin.ext (by
    show 8 * (512 * (t.val % 16) + r.val) + h.val = 4096 * (t.val % 16) + (8 * r.val + h.val); omega))

/-- What a head stores of its values, likewise. -/
theorem v32_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 2048 + 128 * h.val = C + off) (hi hp) (r : Fin 512) (e : Fin 128) :
    shapeCast S1x512x128 (extractStridedSlice S512x128 ![0, off] (P m c t C hb) hs) shapeCasts_S512x128_S1x512x128 (ix3 (0 : Fin 1) r e)
      = G6 m c t ((strided h hi hp).emb (ix3 (0 : Fin 1) r e)) := by
  refine (v32_piece (hC := hC) hs (P_at m c t hC hb) h ho hh _ r e).trans ?_
  rw [emb_strided]
  exact congrArg (fun i => val_main_v53 (F := Ideal) (X m c) (GX m c) (WW m c) (ix3 (st t) i e)) (Fin.ext (by
    show 8 * (512 * (t.val % 16) + r.val) + h.val = 4096 * (t.val % 16) + (8 * r.val + h.val); omega))

/-- What a head stores of its narrow keys, likewise. -/
theorem kb_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 1024 + 128 * h.val = C + off) (hi) (r : Fin 512) (e : Fin 128) :
    shapeCast S1x512x128 (truncf .bf16 (k0_pay22 (F := Ideal) (extractStridedSlice S512x128 ![0, off] (P m c t C hb) hs) (k0_pay20 (F := Ideal) (iblk m c 4 t)) (mulf (extractStridedSlice S512x128 ![0, off] (P m c t C hb) hs) (extractStridedSlice S512x128 ![0, off] (P m c t C hb) hs))) bitsLt_bf16_f32)
        shapeCasts_S512x128_S1x512x128 (ix3 (0 : Fin 1) r e)
      = G7 m c t ((Rect.unit (s := S1x512x1024) ![0, 0, 128 * h.val] ![1, 512, 128] hi).emb (ix3 (0 : Fin 1) r e)) := by
  refine (kb_piece (keys_at m c t hC hb hs h ho hh) _ r e).trans ?_
  rw [emb_side]
  rfl

/-- What a head stores of its transposed queries, likewise. -/
theorem qt_at {C off : ℕ} (hC : C + 256 ≤ 3072) (hb : ∀ a, (![0, C] : Fin 2 → ℕ) a + (![1024, 256] : Fin 2 → ℕ) a ≤ S1024x3072.size a)
    (hs : S512x256.Slices ![0, off] S512x128) (h : Fin 8) (ho : off + 128 ≤ 256) (hh : 128 * h.val = C + off) (hi) (e : Fin 128) (r : Fin 512) :
    shapeCast S1x128x512 (truncf .bf16 (transpose S128x512 [1, 0] (mulf
        (k0_pay22 (F := Ideal) (extractStridedSlice S512x128 ![0, off] (P m c t C hb) hs) (k0_pay20 (F := Ideal) (iblk m c 3 t)) (mulf (extractStridedSlice S512x128 ![0, off] (P m c t C hb) hs) (extractStridedSlice S512x128 ![0, off] (P m c t C hb) hs)))
        (broadcast S512x128 (Named.named (F := Ideal) κ "scale" 0x3E0293EE#32 : Ideal .f32)))
        transposes_S512x128_p1_0_S128x512) bitsLt_bf16_f32) shapeCasts_S128x512_S1x128x512 (ix3 (0 : Fin 1) e r)
      = G8 m c t ((Rect.unit (s := S1x1024x512) ![0, 128 * h.val, 0] ![1, 128, 512] hi).emb (ix3 (0 : Fin 1) e r)) := by
  refine (qt_piece (queries_at m c t hC hb hs h ho hh) e r).trans ?_
  rw [emb_above]
  rfl

theorem point5 (y : S1x4096x128.Idx) : (outsAt0 m c t).1 y = G5 m c t y := by
  unfold outsAt0
  frame_open
  frame_out
  refine canon_heads (s := S1x4096x128) (e := .f32) (G5 m c t) _ _ _ _ _ _ _ _ ?_ ?_ ?_ ?_ ?_ ?_ ?_ ?_ ?_ y
  · intro x
    idx_vars x
    obtain rfl : x0 = 0 := Subsingleton.elim _ _
    exact k32_at m c t (C := 1792) (off := 128) (by decide) inb_S1024x3072_S1024x256_0_1792 slices_S512x256_o0_128_S512x128 7 (by decide) (by decide) _ _ x1 x2
  · intro x
    idx_vars x
    obtain rfl : x0 = 0 := Subsingleton.elim _ _
    exact k32_at m c t (C := 1792) (off := 0) (by decide) inb_S1024x3072_S1024x256_0_1792 slices_S512x256_o0_0_S512x128 6 (by decide) (by decide) _ _ x1 x2
  · intro x
    idx_vars x
    obtain rfl : x0 = 0 := Subsingleton.elim _ _
    exact k32_at m c t (C := 1536) (off := 128) (by decide) inb_S1024x3072_S1024x256_0_1536 slices_S512x256_o0_128_S512x128 5 (by decide) (by decide) _ _ x1 x2
  · intro x
    idx_vars x
    obtain rfl : x0 = 0 := Subsingleton.elim _ _
    exact k32_at m c t (C := 1536) (off := 0) (by decide) inb_S1024x3072_S1024x256_0_1536 slices_S512x256_o0_0_S512x128 4 (by decide) (by decide) _ _ x1 x2
  · intro x
    idx_vars x
    obtain rfl : x0 = 0 := Subsingleton.elim _ _
    exact k32_at m c t (C := 1280) (off := 128) (by decide) inb_S1024x3072_S1024x256_0_1280 slices_S512x256_o0_128_S512x128 3 (by decide) (by decide) _ _ x1 x2
  · intro x
    idx_vars x
    obtain rfl : x0 = 0 := Subsingleton.elim _ _
    exact k32_at m c t (C := 1280) (off := 0) (by decide) inb_S1024x3072_S1024x256_0_1280 slices_S512x256_o0_0_S512x128 2 (by decide) (by decide) _ _ x1 x2
  · intro x
    idx_vars x
    obtain rfl : x0 = 0 := Subsingleton.elim _ _
    exact k32_at m c t (C := 1024) (off := 128) (by decide) inb_S1024x3072_S1024x256_0_1024 slices_S512x256_o0_128_S512x128 1 (by decide) (by decide) _ _ x1 x2
  · intro x
    idx_vars x
    obtain rfl : x0 = 0 := Subsingleton.elim _ _
    exact k32_at m c t (C := 1024) (off := 0) (by decide) inb_S1024x3072_S1024x256_0_1024 slices_S512x256_o0_0_S512x128 0 (by decide) (by decide) _ _ x1 x2
  · exact fun y => _root_.Qkv.cover_strided _ (by sl_kernel_rfl) y

theorem point6 (y : S1x4096x128.Idx) : (outsAt0 m c t).2.1 y = G6 m c t y := by
  unfold outsAt0
  frame_open
  frame_out
  refine canon_heads (s := S1x4096x128) (e := .f32) (G6 m c t) _ _ _ _ _ _ _ _ ?_ ?_ ?_ ?_ ?_ ?_ ?_ ?_ ?_ y
  · intro x
    idx_vars x
    obtain rfl : x0 = 0 := Subsingleton.elim _ _
    exact v32_at m c t (C := 2816) (off := 128) (by decide) inb_S1024x3072_S1024x256_0_2816 slices_S512x256_o0_128_S512x128 7 (by decide) (by decide) _ _ x1 x2
  · intro x
    idx_vars x
    obtain rfl : x0 = 0 := Subsingleton.elim _ _
    exact v32_at m c t (C := 2816) (off := 0) (by decide) inb_S1024x3072_S1024x256_0_2816 slices_S512x256_o0_0_S512x128 6 (by decide) (by decide) _ _ x1 x2
  · intro x
    idx_vars x
    obtain rfl : x0 = 0 := Subsingleton.elim _ _
    exact v32_at m c t (C := 2560) (off := 128) (by decide) inb_S1024x3072_S1024x256_0_2560 slices_S512x256_o0_128_S512x128 5 (by decide) (by decide) _ _ x1 x2
  · intro x
    idx_vars x
    obtain rfl : x0 = 0 := Subsingleton.elim _ _
    exact v32_at m c t (C := 2560) (off := 0) (by decide) inb_S1024x3072_S1024x256_0_2560 slices_S512x256_o0_0_S512x128 4 (by decide) (by decide) _ _ x1 x2
  · intro x
    idx_vars x
    obtain rfl : x0 = 0 := Subsingleton.elim _ _
    exact v32_at m c t (C := 2304) (off := 128) (by decide) inb_S1024x3072_S1024x256_0_2304 slices_S512x256_o0_128_S512x128 3 (by decide) (by decide) _ _ x1 x2
  · intro x
    idx_vars x
    obtain rfl : x0 = 0 := Subsingleton.elim _ _
    exact v32_at m c t (C := 2304) (off := 0) (by decide) inb_S1024x3072_S1024x256_0_2304 slices_S512x256_o0_0_S512x128 2 (by decide) (by decide) _ _ x1 x2
  · intro x
    idx_vars x
    obtain rfl : x0 = 0 := Subsingleton.elim _ _
    exact v32_at m c t (C := 2048) (off := 128) (by decide) inb_S1024x3072_S1024x256_0_2048 slices_S512x256_o0_128_S512x128 1 (by decide) (by decide) _ _ x1 x2
  · intro x
    idx_vars x
    obtain rfl : x0 = 0 := Subsingleton.elim _ _
    exact v32_at m c t (C := 2048) (off := 0) (by decide) inb_S1024x3072_S1024x256_0_2048 slices_S512x256_o0_0_S512x128 0 (by decide) (by decide) _ _ x1 x2
  · exact fun y => _root_.Qkv.cover_strided _ (by sl_kernel_rfl) y

theorem point7 (y : S1x512x1024.Idx) : (outsAt0 m c t).2.2.1 y = G7 m c t y := by
  unfold outsAt0
  frame_open
  frame_out
  refine canon_heads (s := S1x512x1024) (e := .bf16) (G7 m c t) _ _ _ _ _ _ _ _ ?_ ?_ ?_ ?_ ?_ ?_ ?_ ?_ ?_ y
  · intro x
    idx_vars x
    obtain rfl : x0 = 0 := Subsingleton.elim _ _
    exact kb_at m c t (C := 1792) (off := 128) (by decide) inb_S1024x3072_S1024x256_0_1792 slices_S512x256_o0_128_S512x128 7 (by decide) (by decide) _ x1 x2
  · intro x
    idx_vars x
    obtain rfl : x0 = 0 := Subsingleton.elim _ _
    exact kb_at m c t (C := 1792) (off := 0) (by decide) inb_S1024x3072_S1024x256_0_1792 slices_S512x256_o0_0_S512x128 6 (by decide) (by decide) _ x1 x2
  · intro x
    idx_vars x
    obtain rfl : x0 = 0 := Subsingleton.elim _ _
    exact kb_at m c t (C := 1536) (off := 128) (by decide) inb_S1024x3072_S1024x256_0_1536 slices_S512x256_o0_128_S512x128 5 (by decide) (by decide) _ x1 x2
  · intro x
    idx_vars x
    obtain rfl : x0 = 0 := Subsingleton.elim _ _
    exact kb_at m c t (C := 1536) (off := 0) (by decide) inb_S1024x3072_S1024x256_0_1536 slices_S512x256_o0_0_S512x128 4 (by decide) (by decide) _ x1 x2
  · intro x
    idx_vars x
    obtain rfl : x0 = 0 := Subsingleton.elim _ _
    exact kb_at m c t (C := 1280) (off := 128) (by decide) inb_S1024x3072_S1024x256_0_1280 slices_S512x256_o0_128_S512x128 3 (by decide) (by decide) _ x1 x2
  · intro x
    idx_vars x
    obtain rfl : x0 = 0 := Subsingleton.elim _ _
    exact kb_at m c t (C := 1280) (off := 0) (by decide) inb_S1024x3072_S1024x256_0_1280 slices_S512x256_o0_0_S512x128 2 (by decide) (by decide) _ x1 x2
  · intro x
    idx_vars x
    obtain rfl : x0 = 0 := Subsingleton.elim _ _
    exact kb_at m c t (C := 1024) (off := 128) (by decide) inb_S1024x3072_S1024x256_0_1024 slices_S512x256_o0_128_S512x128 1 (by decide) (by decide) _ x1 x2
  · intro x
    idx_vars x
    obtain rfl : x0 = 0 := Subsingleton.elim _ _
    exact kb_at m c t (C := 1024) (off := 0) (by decide) inb_S1024x3072_S1024x256_0_1024 slices_S512x256_o0_0_S512x128 0 (by decide) (by decide) _ x1 x2
  · exact View.cover_of_tiledL _ ![1, 512, 128] (by sl_kernel_rfl)

theorem point8 (y : S1x1024x512.Idx) : (outsAt0 m c t).2.2.2.1 y = G8 m c t y := by
  unfold outsAt0
  frame_open
  frame_out
  refine canon_heads (s := S1x1024x512) (e := .bf16) (G8 m c t) _ _ _ _ _ _ _ _ ?_ ?_ ?_ ?_ ?_ ?_ ?_ ?_ ?_ y
  · intro x
    idx_vars x
    obtain rfl : x0 = 0 := Subsingleton.elim _ _
    exact qt_at m c t (C := 768) (off := 128) (by decide) inb_S1024x3072_S1024x256_0_768 slices_S512x256_o0_128_S512x128 7 (by decide) (by decide) _ x1 x2
  · intro x
    idx_vars x
    obtain rfl : x0 = 0 := Subsingleton.elim _ _
    exact qt_at m c t (C := 768) (off := 0) (by decide) inb_S1024x3072_S1024x256_0_768 slices_S512x256_o0_0_S512x128 6 (by decide) (by decide) _ x1 x2
  · intro x
    idx_vars x
    obtain rfl : x0 = 0 := Subsingleton.elim _ _
    exact qt_at m c t (C := 512) (off := 128) (by decide) inb_S1024x3072_S1024x256_0_512 slices_S512x256_o0_128_S512x128 5 (by decide) (by decide) _ x1 x2
  · intro x
    idx_vars x
    obtain rfl : x0 = 0 := Subsingleton.elim _ _
    exact qt_at m c t (C := 512) (off := 0) (by decide) inb_S1024x3072_S1024x256_0_512 slices_S512x256_o0_0_S512x128 4 (by decide) (by decide) _ x1 x2
  · intro x
    idx_vars x
    obtain rfl : x0 = 0 := Subsingleton.elim _ _
    exact qt_at m c t (C := 256) (off := 128) (by decide) inb_S1024x3072_S1024x256_0_256 slices_S512x256_o0_128_S512x128 3 (by decide) (by decide) _ x1 x2
  · intro x
    idx_vars x
    obtain rfl : x0 = 0 := Subsingleton.elim _ _
    exact qt_at m c t (C := 256) (off := 0) (by decide) inb_S1024x3072_S1024x256_0_256 slices_S512x256_o0_0_S512x128 2 (by decide) (by decide) _ x1 x2
  · intro x
    idx_vars x
    obtain rfl : x0 = 0 := Subsingleton.elim _ _
    exact qt_at m c t (C := 0) (off := 128) (by decide) inb_S1024x3072_S1024x256_0_0 slices_S512x256_o0_128_S512x128 1 (by decide) (by decide) _ x1 x2
  · intro x
    idx_vars x
    obtain rfl : x0 = 0 := Subsingleton.elim _ _
    exact qt_at m c t (C := 0) (off := 0) (by decide) inb_S1024x3072_S1024x256_0_0 slices_S512x256_o0_0_S512x128 0 (by decide) (by decide) _ x1 x2
  · exact View.cover_of_tiledL _ ![1, 128, 512] (by sl_kernel_rfl)

/-- The keys, a token's heads together. -/
theorem final5 : (dats m 0 c).arrAt 5 (cfgs 0).N = val_main_v52 (F := Ideal) (X m c) (GX m c) (WW m c) (GK m c) := by
  refine (dats m 0 c).arrAt_eq_of_covers 5 _ (by decide +kernel) fun t _ y => ?_
  blk_simp
  rw [after0_5]
  refine (point5 m c t y).trans ?_
  idx_vars y
  refine congrArg (val_main_v52 (F := Ideal) (X m c) (GX m c) (WW m c) (GK m c)) ?_
  blk_ext [idx t]

/-- The values, likewise. -/
theorem final6 : (dats m 0 c).arrAt 6 (cfgs 0).N = val_main_v53 (F := Ideal) (X m c) (GX m c) (WW m c) := by
  refine (dats m 0 c).arrAt_eq_of_covers 6 _ (by decide +kernel) fun t _ y => ?_
  blk_simp
  rw [after0_6]
  refine (point6 m c t y).trans ?_
  idx_vars y
  refine congrArg (val_main_v53 (F := Ideal) (X m c) (GX m c) (WW m c)) ?_
  blk_ext [idx t]

/-- The keys in the narrow format. -/
theorem final7 : (dats m 0 c).arrAt 7 (cfgs 0).N = val_main_v55 (F := Ideal) (X m c) (GX m c) (WW m c) (GK m c) := by
  refine (dats m 0 c).arrAt_eq_of_covers 7 _ (by decide +kernel) fun t _ y => ?_
  blk_simp
  rw [after0_7]
  refine (point7 m c t y).trans ?_
  idx_vars y
  refine congrArg (val_main_v55 (F := Ideal) (X m c) (GX m c) (WW m c) (GK m c)) ?_
  show ix3 (st t) (tok t y1) y2 = _
  blk_ext [idx t]

/-- The scaled queries, transposed. -/
theorem final8 : (dats m 0 c).arrAt 8 (cfgs 0).N = val_main_v58 (F := Ideal) (X m c) (GX m c) (WW m c) (GQ m c) := by
  refine (dats m 0 c).arrAt_eq_of_covers 8 _ (by decide +kernel) fun t _ y => ?_
  blk_simp
  rw [after0_8]
  refine (point8 m c t y).trans ?_
  idx_vars y
  refine congrArg (val_main_v58 (F := Ideal) (X m c) (GX m c) (WW m c) (GQ m c)) ?_
  show ix3 (st t) y1 (tok t y2) = _
  blk_ext [idx t]

/-- The run: the four results as the reference's arrays, the arguments unchanged. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = val_main_v52 (F := Ideal) (X m c) (GX m c) (WW m c) (GK m c)
      ∧ r.2.mem ((c.tc : Thread nD τ).loc main_v5_1) = val_main_v53 (F := Ideal) (X m c) (GX m c) (WW m c)
      ∧ r.2.mem ((c.tc : Thread nD τ).loc main_v5_2) = val_main_v55 (F := Ideal) (X m c) (GX m c) (WW m c) (GK m c)
      ∧ r.2.mem ((c.tc : Thread nD τ).loc main_v5_3) = val_main_v58 (F := Ideal) (X m c) (GX m c) (WW m c) (GQ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c),
      ((h.1 c).1 8).trans (final8 m c), h.2 c⟩)
    (θ_run_and (run_main m ρ) (unchanged m ρ))

end Cert.Kernel5Ideal.Qkv

end
-- ==== Proof.lean ====
/- The seven pairs of programs: the mLSTM call, the attention call, the feed-forward call, the input projection and the query,
   key and value call, each with its plain reference; the feed-forward call and the input projection for the new streams and
   for the running ones. Frames of all, and the values of all pairs but the second. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.MlstmValue
public import proofs.«01_k».proof.Proof.FfnValue
public import proofs.«01_k».proof.Proof.FfnRunningValue
public import proofs.«01_k».proof.Proof.ProjValue
public import proofs.«01_k».proof.Proof.ProjRunningValue
public import proofs.«01_k».proof.Proof.QkvRun
public import proofs.«01_k».proof.Proof.QkvIdealRun
public import proofs.«01_k».proof.Proof.QkvValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run, read at its arguments; it has no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The reference's run, read at its arguments; it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's run, read at its arguments; it has no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's run, read at its arguments; it has no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's run, read at its arguments; it has no semaphore. -/
theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The reference's run, read at its arguments; it has no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's run, read at its arguments; it has no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference's run, its results as arrays of the arguments. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v150) = Cert.ReferenceIdeal.Read.val_main_v150 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v118) = Cert.ReferenceIdeal.Read.val_main_v118 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v127) = Cert.ReferenceIdeal.Read.val_main_v127 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v151) = Cert.ReferenceIdeal.Read.val_main_v151 (F := Ideal) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v32) = Cert.ReferenceIdeal.Read.val_main_v32 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run Cert.ReferenceIdeal.defs _ _).mono (fun r h c =>
    ⟨(h c).1.trans (Cert.ReferenceIdeal.Read.val_main_v150_eq (F := Ideal) _),
      (h c).2.1.trans (Cert.ReferenceIdeal.Read.val_main_v118_eq (F := Ideal) _),
      (h c).2.2.1.trans (Cert.ReferenceIdeal.Read.val_main_v127_eq (F := Ideal) _),
      (h c).2.2.2.1.trans (Cert.ReferenceIdeal.Read.val_main_v151_eq (F := Ideal) _),
      (h c).2.2.2.2.1.trans (Cert.ReferenceIdeal.Read.val_main_v32_eq (F := Ideal) _),
      (h c).2.2.2.2.2⟩)
    (Cert.ReferenceIdeal.Value.run (F := Ideal) m g)

/-- The mLSTM call and the cell's equations, written plainly, end with the same extended reals in all five results. -/
theorem algebraic_mlstm : Cert.algebraic_KernelIdeal_ReferenceIdeal := fun m g m' g' _ same =>
  ⟨_, _, _, _, _, Cert.KernelIdeal.Value.run_blocks m g,
    (θ_run Cert.ReferenceIdeal.defs _ _).mono (fun r h c => by
      obtain ⟨e0, e1, e2, e3, e4, e5, e6, e7, e8, e9, e10, e11, e12, e13⟩ := same c
      have h := h c
      refine ⟨h.1.trans ?_, h.2.1.trans ?_, h.2.2.1.trans ?_, h.2.2.2.1.trans ?_, h.2.2.2.2.1.trans ?_, h.2.2.2.2.2⟩
      · rw [e0, e1, e2, e3, e4, e5, e6, e7, e8, e9, e10, e11, e12, e13]
        exact (Cert.KernelIdeal.Mlstm.final13 m c).symm
      · rw [e0, e1, e2, e4, e5, e6, e7, e8, e9, e11, e13]
        exact (Cert.KernelIdeal.Mlstm.final14 m c).symm
      · rw [e0, e1, e4, e5, e6, e7, e8, e9, e12, e13]
        exact (Cert.KernelIdeal.Mlstm.final15 m c).symm
      · rw [e4, e5, e9, e13]
        exact (Cert.KernelIdeal.Mlstm.final16 m c).symm
      · rw [e0, e1, e6]
        exact (Cert.KernelIdeal.Mlstm.final17 m c).symm)
      (run_reference m' g')⟩

/-- The feed-forward call and the SwiGLU mixer, written plainly, end with the same extended reals. -/
theorem algebraic_ffn : Cert.algebraic_Kernel3Ideal_Reference3Ideal := by
  pair_intro
  · run_from Cert.Kernel3Ideal.Gen.run_main m g
  · hlo_run
    exact (Cert.Kernel3Ideal.Ffn.final m c).symm

/-- The norm and input projection's call and the normed product, written plainly, end with the same extended reals. -/
theorem algebraic_proj : Cert.algebraic_Kernel4Ideal_Reference4Ideal := by
  pair_intro
  · run_from Cert.Kernel4Ideal.Gen.run_main m g
  · refine (θ_run Cert.Reference4Ideal.defs _ _).mono (fun r h c => ⟨((h c).1.trans (Cert.Reference4Ideal.Read.val_main_v19_eq m' c)).trans ?_, (h c).2⟩)
      (Cert.Reference4Ideal.Value.run (F := Ideal) m' g')
    obtain ⟨e0, e1, e2⟩ := hagree c
    rw [e0, e1, e2]
    exact (Cert.Kernel4Ideal.Proj.final m c).symm

/-- The same two of the running streams' feed-forward call. -/
theorem algebraic_ffn_running : Cert.algebraic_Kernel6Ideal_Reference6Ideal := by
  pair_intro
  · run_from Cert.Kernel6Ideal.Gen.run_main m g
  · hlo_run
    exact (Cert.Kernel6Ideal.Ffn.final m c).symm

/-- The same two of the running streams' input projection. -/
theorem algebraic_proj_running : Cert.algebraic_Kernel7Ideal_Reference7Ideal := by
  pair_intro
  · run_from Cert.Kernel7Ideal.Gen.run_main m g
  · refine (θ_run Cert.Reference7Ideal.defs _ _).mono (fun r h c => ⟨((h c).1.trans (Cert.Reference7Ideal.Read.val_main_v19_eq m' c)).trans ?_, (h c).2⟩)
      (Cert.Reference7Ideal.Value.run (F := Ideal) m' g')
    obtain ⟨e0, e1, e2⟩ := hagree c
    rw [e0, e1, e2]
    exact (Cert.Kernel7Ideal.Proj.final m c).symm

/-- The query, key and value reference's run, its results as arrays of the arguments. -/
theorem run_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => ∀ c : Dev Cert.Reference5Ideal.nD,
      r.2.mem ((c.tc : Thread Cert.Reference5Ideal.nD Cert.Reference5Ideal.τ).loc Cert.Reference5Ideal.main_v52) = Cert.Reference5Ideal.Read.val_main_v52 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v53) = Cert.Reference5Ideal.Read.val_main_v53 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))
      ∧ r.2.mem ((c.tc : Thread Cert.Reference5Ideal.nD Cert.Reference5Ideal.τ).loc Cert.Reference5Ideal.main_v55) = Cert.Reference5Ideal.Read.val_main_v55 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v58) = Cert.Reference5Ideal.Read.val_main_v58 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)) :=
  (θ_run Cert.Reference5Ideal.defs _ _).mono (fun r h c =>
    ⟨(h c).1.trans (Cert.Reference5Ideal.Read.val_main_v52_eq (F := Ideal) _ _ _ _),
      (h c).2.1.trans (Cert.Reference5Ideal.Read.val_main_v53_eq (F := Ideal) _ _ _),
      (h c).2.2.1.trans (Cert.Reference5Ideal.Read.val_main_v55_eq (F := Ideal) _ _ _ _),
      (h c).2.2.2.1.trans (Cert.Reference5Ideal.Read.val_main_v58_eq (F := Ideal) m c),
      (h c).2.2.2.2⟩)
    (Cert.Reference5Ideal.Value.run (F := Ideal) m g)

/-- The query, key and value call and the normed heads of the product, written plainly, end with the same extended reals in
    all four results. -/
theorem algebraic_qkv : Cert.algebraic_Kernel5Ideal_Reference5Ideal := fun m g m' g' _ same =>
  ⟨_, _, _, _, Cert.Kernel5Ideal.Qkv.run_values m g,
    (θ_run Cert.Reference5Ideal.defs _ _).mono (fun r h c => by
      obtain ⟨e0, e1, e2, e3, e4⟩ := same c
      have h := h c
      refine ⟨h.1.trans ?_, h.2.1.trans ?_, h.2.2.1.trans ?_, h.2.2.2.1.trans ?_, h.2.2.2.2⟩
      · rw [e0, e1, e2, e4]
      · rw [e0, e1, e2]
      · rw [e0, e1, e2, e4]
      · rw [e0, e1, e2, e3])
      (run_reference5 m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, algebraic_mlstm, IdealRules.named_const.statement Cert.Kernel2Ideal.κ "mask" .f32 0xF149F2CA#32 ⊥ rfl,
  trivial, algebraic_ffn, trivial, algebraic_proj,
  IdealRules.named_const.statement Cert.Kernel5Ideal.κ "scale" .f32 0x3E0293EE#32 _ rfl, algebraic_qkv,
  trivial, algebraic_ffn_running, trivial, algebraic_proj_running⟩

end Cert.Proof

end
